-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_features [hPre_binary_features : Cert.Pre_binary_features.Facts] (m : (ℓ : Loc Cert.KernelIdeal.nD Cert.KernelIdeal.τ Cert.KernelIdeal.sig) → Buf (Elt Ideal) ℓ) : Prop :=
  ∀ c : Dev Cert.KernelIdeal.nD,
    (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_binary_features.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_features [hPre_binary_features : Cert.Pre_binary_features.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_binary_features.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_binary_features [hKernelIdeal : Cert.KernelIdeal.Facts] [hPre_binary_features : Cert.Pre_binary_features.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_features m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_binary_features [hReferenceIdeal : Cert.ReferenceIdeal.Facts] [hPre_binary_features : Cert.Pre_binary_features.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_features m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_binary_features [hKernelIdeal : Cert.KernelIdeal.Facts] [hReferenceIdeal : Cert.ReferenceIdeal.Facts] [hPre_binary_features : Cert.Pre_binary_features.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_features m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_binary_features : Cert.Pre_binary_features.Facts),
    quiescent_Kernel (hKernel := hKernel)
    ∧ quiescent_KernelIdeal (hKernelIdeal := hKernelIdeal)
    ∧ quiescent_KernelIdeal_pre_binary_features (hKernelIdeal := hKernelIdeal) (hPre_binary_features := hPre_binary_features)
    ∧ quiescent_ReferenceIdeal (hReferenceIdeal := hReferenceIdeal)
    ∧ quiescent_ReferenceIdeal_pre_binary_features (hReferenceIdeal := hReferenceIdeal) (hPre_binary_features := hPre_binary_features)
    ∧ preserves_Kernel_KernelIdeal
    ∧ algebraic_KernelIdeal_ReferenceIdeal_pre_binary_features (hKernelIdeal := hKernelIdeal) (hReferenceIdeal := hReferenceIdeal) (hPre_binary_features := hPre_binary_features)
-- ==== Pre_binary_features.lean ====
abbrev S100000x9 : Shape := ⟨2, ![100000, 9]⟩
abbrev S119x128 : Shape := ⟨2, ![119, 128]⟩
abbrev S5x128 : Shape := ⟨2, ![5, 128]⟩
abbrev S12x128 : Shape := ⟨2, ![12, 128]⟩
abbrev S10x128 : Shape := ⟨2, ![10, 128]⟩
abbrev S6x128 : Shape := ⟨2, ![6, 128]⟩
abbrev S2x128 : Shape := ⟨2, ![2, 128]⟩
abbrev S_ : Shape := ⟨0, ![]⟩

class Facts : Prop where
  bcast_S_S100000x9 : S_.BroadcastsInDim S100000x9 (![] : Fin 0 → Fin S100000x9.rank)
  slices_S119x128_S2x128_0_0 : S119x128.Slices ![0, 0] S2x128
  bcast_S_S2x128 : S_.BroadcastsInDim S2x128 (![] : Fin 0 → Fin S2x128.rank)
  slices_S5x128_S2x128_0_0 : S5x128.Slices ![0, 0] S2x128
  slices_S12x128_S2x128_0_0 : S12x128.Slices ![0, 0] S2x128
  slices_S10x128_S2x128_0_0 : S10x128.Slices ![0, 0] S2x128
  slices_S6x128_S2x128_0_0 : S6x128.Slices ![0, 0] S2x128

variable [Facts]

def fn_part2 {F : FTy → Type} [FloatOps F] (main_v4 : IVec S100000x9 1) (main_v8 : IVec S2x128 1) (main_v12 : IVec S2x128 1) (main_v16 : IVec S2x128 1) (main_v20 : IVec S2x128 1) (main_v24 : IVec S2x128 1) (main_v28 : IVec S2x128 1) (main_v32 : IVec S2x128 1) (main_v35 : IVec S2x128 1) (main_v36 : FVec F S2x128 .f32) (main_cst_8 : FVec F S_ .f32) : IVec S100000x9 1 × IVec S2x128 1 × IVec S2x128 1 × IVec S2x128 1 × IVec S2x128 1 × IVec S2x128 1 × IVec S2x128 1 × IVec S2x128 1 × IVec S2x128 1 × IVec S2x128 1 :=
  let main_v37 : FVec F S2x128 .f32 := broadcastInDim S2x128 ![] bcast_S_S2x128 main_cst_8
  let main_v38 : IVec S2x128 1 := cmpf .olt main_v36 main_v37
  (main_v4, main_v8, main_v12, main_v16, main_v20, main_v24, main_v28, main_v32, main_v35, main_v38)

def fn_part1 {F : FTy → Type} [FloatOps F] (main_arg5 : FVec F S10x128 .f32) (main_arg6 : FVec F S6x128 .f32) (main_arg7 : FVec F S6x128 .f32) (main_arg8 : FVec F S2x128 .f32) (main_arg9 : FVec F S2x128 .f32) (main_v4 : IVec S100000x9 1) (main_v8 : IVec S2x128 1) (main_v12 : IVec S2x128 1) (main_v16 : IVec S2x128 1) (main_v18 : FVec F S2x128 .f32) : IVec S100000x9 1 × IVec S2x128 1 × IVec S2x128 1 × IVec S2x128 1 × IVec S2x128 1 × IVec S2x128 1 × IVec S2x128 1 × IVec S2x128 1 × IVec S2x128 1 × IVec S2x128 1 :=
  let main_cst_3 : FVec F S_ .f32 := constant S_ .f32 0x7F800000#32
  let main_v19 : FVec F S2x128 .f32 := broadcastInDim S2x128 ![] bcast_S_S2x128 main_cst_3
  let main_v20 : IVec S2x128 1 := cmpf .olt main_v18 main_v19
  let main_v21 : FVec F S2x128 .f32 := (extractStridedSlice S2x128 ![0, 0] · slices_S10x128_S2x128_0_0) main_arg5
  let main_v22 : FVec F S2x128 .f32 := Host.absf main_v21
  let main_cst_4 : FVec F S_ .f32 := constant S_ .f32 0x7F800000#32
  let main_v23 : FVec F S2x128 .f32 := broadcastInDim S2x128 ![] bcast_S_S2x128 main_cst_4
  let main_v24 : IVec S2x128 1 := cmpf .olt main_v22 main_v23
  let main_v25 : FVec F S2x128 .f32 := (extractStridedSlice S2x128 ![0, 0] · slices_S6x128_S2x128_0_0) main_arg6
  let main_v26 : FVec F S2x128 .f32 := Host.absf main_v25
  let main_cst_5 : FVec F S_ .f32 := constant S_ .f32 0x7F800000#32
  let main_v27 : FVec F S2x128 .f32 := broadcastInDim S2x128 ![] bcast_S_S2x128 main_cst_5
  let main_v28 : IVec S2x128 1 := cmpf .olt main_v26 main_v27
  let main_v29 : FVec F S2x128 .f32 := (extractStridedSlice S2x128 ![0, 0] · slices_S6x128_S2x128_0_0) main_arg7
  let main_v30 : FVec F S2x128 .f32 := Host.absf main_v29
  let main_cst_6 : FVec F S_ .f32 := constant S_ .f32 0x7F800000#32
  let main_v31 : FVec F S2x128 .f32 := broadcastInDim S2x128 ![] bcast_S_S2x128 main_cst_6
  let main_v32 : IVec S2x128 1 := cmpf .olt main_v30 main_v31
  let main_v33 : FVec F S2x128 .f32 := Host.absf main_arg8
  let main_cst_7 : FVec F S_ .f32 := constant S_ .f32 0x7F800000#32
  let main_v34 : FVec F S2x128 .f32 := broadcastInDim S2x128 ![] bcast_S_S2x128 main_cst_7
  let main_v35 : IVec S2x128 1 := cmpf .olt main_v33 main_v34
  let main_v36 : FVec F S2x128 .f32 := Host.absf main_arg9
  let main_cst_8 : FVec F S_ .f32 := constant S_ .f32 0x7F800000#32
  fn_part2 (F := F) main_v4 main_v8 main_v12 main_v16 main_v20 main_v24 main_v28 main_v32 main_v35 main_v36 main_cst_8

def fn {F : FTy → Type} [FloatOps F] (main_arg0 : IVec S100000x9 32) (main_arg1 : FVec F S119x128 .f32) (main_arg2 : FVec F S5x128 .f32) (main_arg3 : FVec F S12x128 .f32) (main_arg4 : FVec F S12x128 .f32) (main_arg5 : FVec F S10x128 .f32) (main_arg6 : FVec F S6x128 .f32) (main_arg7 : FVec F S6x128 .f32) (main_arg8 : FVec F S2x128 .f32) (main_arg9 : FVec F S2x128 .f32) : IVec S100000x9 1 × IVec S2x128 1 × IVec S2x128 1 × IVec S2x128 1 × IVec S2x128 1 × IVec S2x128 1 × IVec S2x128 1 × IVec S2x128 1 × IVec S2x128 1 × IVec S2x128 1 :=
  let main_c : IVec S_ 32 := constantI S_ 32 0#32
  let main_v0 : IVec S100000x9 32 := broadcastInDim S100000x9 ![] bcast_S_S100000x9 main_c
  let main_v1 : IVec S100000x9 1 := cmpi .sge main_arg0 main_v0
  let main_c_0 : IVec S_ 32 := constantI S_ 32 1#32
  let main_v2 : IVec S100000x9 32 := broadcastInDim S100000x9 ![] bcast_S_S100000x9 main_c_0
  let main_v3 : IVec S100000x9 1 := cmpi .sle main_arg0 main_v2
  let main_v4 : IVec S100000x9 1 := andi main_v1 main_v3
  let main_v5 : FVec F S2x128 .f32 := (extractStridedSlice S2x128 ![0, 0] · slices_S119x128_S2x128_0_0) main_arg1
  let main_v6 : FVec F S2x128 .f32 := Host.absf main_v5
  let main_cst : FVec F S_ .f32 := constant S_ .f32 0x7F800000#32
  let main_v7 : FVec F S2x128 .f32 := broadcastInDim S2x128 ![] bcast_S_S2x128 main_cst
  let main_v8 : IVec S2x128 1 := cmpf .olt main_v6 main_v7
  let main_v9 : FVec F S2x128 .f32 := (extractStridedSlice S2x128 ![0, 0] · slices_S5x128_S2x128_0_0) main_arg2
  let main_v10 : FVec F S2x128 .f32 := Host.absf main_v9
  let main_cst_1 : FVec F S_ .f32 := constant S_ .f32 0x7F800000#32
  let main_v11 : FVec F S2x128 .f32 := broadcastInDim S2x128 ![] bcast_S_S2x128 main_cst_1
  let main_v12 : IVec S2x128 1 := cmpf .olt main_v10 main_v11
  let main_v13 : FVec F S2x128 .f32 := (extractStridedSlice S2x128 ![0, 0] · slices_S12x128_S2x128_0_0) main_arg3
  let main_v14 : FVec F S2x128 .f32 := Host.absf main_v13
  let main_cst_2 : FVec F S_ .f32 := constant S_ .f32 0x7F800000#32
  let main_v15 : FVec F S2x128 .f32 := broadcastInDim S2x128 ![] bcast_S_S2x128 main_cst_2
  let main_v16 : IVec S2x128 1 := cmpf .olt main_v14 main_v15
  let main_v17 : FVec F S2x128 .f32 := (extractStridedSlice S2x128 ![0, 0] · slices_S12x128_S2x128_0_0) main_arg4
  let main_v18 : FVec F S2x128 .f32 := Host.absf main_v17
  fn_part1 (F := F) main_arg5 main_arg6 main_arg7 main_arg8 main_arg9 main_v4 main_v8 main_v12 main_v16 main_v18
-- ==== Kernel.lean ====
abbrev S100000x9 : Shape := ⟨2, ![100000, 9]⟩
abbrev S119x128 : Shape := ⟨2, ![119, 128]⟩
abbrev S5x128 : Shape := ⟨2, ![5, 128]⟩
abbrev S12x128 : Shape := ⟨2, ![12, 128]⟩
abbrev S10x128 : Shape := ⟨2, ![10, 128]⟩
abbrev S6x128 : Shape := ⟨2, ![6, 128]⟩
abbrev S2x128 : Shape := ⟨2, ![2, 128]⟩
abbrev S9x100000 : Shape := ⟨2, ![9, 100000]⟩
abbrev S100000x128 : Shape := ⟨2, ![100000, 128]⟩
abbrev S9x2048 : Shape := ⟨2, ![9, 2048]⟩
abbrev S2048x128 : Shape := ⟨2, ![2048, 128]⟩
abbrev S1x128 : Shape := ⟨2, ![1, 128]⟩
abbrev S9x128 : Shape := ⟨2, ![9, 128]⟩
abbrev S20x128 : Shape := ⟨2, ![20, 128]⟩
abbrev S2x2048 : Shape := ⟨2, ![2, 2048]⟩
abbrev S20x2048 : Shape := ⟨2, ![20, 2048]⟩

abbrev nBuf : Space → Nat
  | .hbm => 12
  | .vmem => 13
  | .smem => 0
  | _ => 0

abbrev bufTy : (tb : Table) → Fin (tcTables nBuf tb) → BufTy
  | .hbm, ⟨0, _⟩ => ⟨S100000x9, .i32⟩
  | .hbm, ⟨1, _⟩ => ⟨S119x128, .f32⟩
  | .hbm, ⟨2, _⟩ => ⟨S5x128, .f32⟩
  | .hbm, ⟨3, _⟩ => ⟨S12x128, .f32⟩
  | .hbm, ⟨4, _⟩ => ⟨S12x128, .f32⟩
  | .hbm, ⟨5, _⟩ => ⟨S10x128, .f32⟩
  | .hbm, ⟨6, _⟩ => ⟨S6x128, .f32⟩
  | .hbm, ⟨7, _⟩ => ⟨S6x128, .f32⟩
  | .hbm, ⟨8, _⟩ => ⟨S2x128, .f32⟩
  | .hbm, ⟨9, _⟩ => ⟨S2x128, .f32⟩
  | .hbm, ⟨10, _⟩ => ⟨S9x100000, .i32⟩
  | .hbm, ⟨11, _⟩ => ⟨S100000x128, .f32⟩
  | .local _ .vmem, ⟨0, _⟩ => ⟨S9x2048, .i32⟩
  | .local _ .vmem, ⟨1, _⟩ => ⟨S9x2048, .i32⟩
  | .local _ .vmem, ⟨2, _⟩ => ⟨S119x128, .f32⟩
  | .local _ .vmem, ⟨3, _⟩ => ⟨S5x128, .f32⟩
  | .local _ .vmem, ⟨4, _⟩ => ⟨S12x128, .f32⟩
  | .local _ .vmem, ⟨5, _⟩ => ⟨S12x128, .f32⟩
  | .local _ .vmem, ⟨6, _⟩ => ⟨S10x128, .f32⟩
  | .local _ .vmem, ⟨7, _⟩ => ⟨S6x128, .f32⟩
  | .local _ .vmem, ⟨8, _⟩ => ⟨S6x128, .f32⟩
  | .local _ .vmem, ⟨9, _⟩ => ⟨S2x128, .f32⟩
  | .local _ .vmem, ⟨10, _⟩ => ⟨S2x128, .f32⟩
  | .local _ .vmem, ⟨11, _⟩ => ⟨S2048x128, .f32⟩
  | .local _ .vmem, ⟨12, _⟩ => ⟨S2048x128, .f32⟩
  | _, _ => ⟨S100000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S9x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S119x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S100000x9 : Shape := ⟨2, ![100000, 9]⟩
abbrev S119x128 : Shape := ⟨2, ![119, 128]⟩
abbrev S5x128 : Shape := ⟨2, ![5, 128]⟩
abbrev S12x128 : Shape := ⟨2, ![12, 128]⟩
abbrev S10x128 : Shape := ⟨2, ![10, 128]⟩
abbrev S6x128 : Shape := ⟨2, ![6, 128]⟩
abbrev S2x128 : Shape := ⟨2, ![2, 128]⟩
abbrev S_ : Shape := ⟨0, ![]⟩
abbrev S100000x128 : Shape := ⟨2, ![100000, 128]⟩
abbrev S100000x1 : Shape := ⟨2, ![100000, 1]⟩
abbrev S100000 : Shape := ⟨1, ![100000]⟩
abbrev S1 : Shape := ⟨1, ![1]⟩
abbrev S1x1 : Shape := ⟨2, ![1, 1]⟩

abbrev nBuf : Space → Nat
  | .hbm => 246
  | .vmem => 0
  | .smem => 0
  | _ => 0

abbrev hbmTy0_0 (i : Nat) : BufTy := match i % 128 with
  | 0 => ⟨S100000x9, .i32⟩
  | 1 => ⟨S119x128, .f32⟩
  | 2 => ⟨S5x128, .f32⟩
  | 3 => ⟨S12x128, .f32⟩
  | 4 => ⟨S12x128, .f32⟩
  | 5 => ⟨S10x128, .f32⟩
  | 6 => ⟨S6x128, .f32⟩
  | 7 => ⟨S6x128, .f32⟩
  | 8 => ⟨S2x128, .f32⟩
  | 9 => ⟨S2x128, .f32⟩
  | 10 => ⟨S_, .f32⟩
  | 11 => ⟨S100000x128, .f32⟩
  | 12 => ⟨S100000x1, .i32⟩
  | 13 => ⟨S100000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S1, .i32⟩
  | 23 => ⟨S_, .i32⟩
  | 24 => ⟨S100000x1, .i32⟩
  | 25 => ⟨S100000x1, .i1⟩
  | 26 => ⟨S1x1, .i32⟩
  | 27 => ⟨S100000x1, .i32⟩
  | 28 => ⟨S100000x1, .i1⟩
  | 29 => ⟨S100000x1, .i1⟩
  | 30 => ⟨S_, .i1⟩
  | 31 => ⟨S100000, .i1⟩
  | 32 => ⟨S100000x128, .f32⟩
  | 33 => ⟨S100000x128, .i1⟩
  | 34 => ⟨S_, .f32⟩
  | 35 => ⟨S100000x128, .f32⟩
  | 36 => ⟨S100000x128, .f32⟩
  | 37 => ⟨S100000x128, .f32⟩
  | 38 => ⟨S100000x1, .i32⟩
  | 39 => ⟨S100000, .i32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S1, .i32⟩
  | 49 => ⟨S_, .i32⟩
  | 50 => ⟨S100000x1, .i32⟩
  | 51 => ⟨S100000x1, .i1⟩
  | 52 => ⟨S1x1, .i32⟩
  | 53 => ⟨S100000x1, .i32⟩
  | 54 => ⟨S100000x1, .i1⟩
  | 55 => ⟨S100000x1, .i1⟩
  | 56 => ⟨S_, .i1⟩
  | 57 => ⟨S100000, .i1⟩
  | 58 => ⟨S100000x128, .f32⟩
  | 59 => ⟨S100000x128, .i1⟩
  | 60 => ⟨S_, .f32⟩
  | 61 => ⟨S100000x128, .f32⟩
  | 62 => ⟨S100000x128, .f32⟩
  | 63 => ⟨S100000x128, .f32⟩
  | 64 => ⟨S100000x1, .i32⟩
  | 65 => ⟨S100000, .i32⟩
  | 66 => ⟨S_, .i32⟩
  | 67 => ⟨S100000, .i32⟩
  | 68 => ⟨S100000, .i1⟩
  | 69 => ⟨S_, .i32⟩
  | 70 => ⟨S100000, .i32⟩
  | 71 => ⟨S100000, .i32⟩
  | 72 => ⟨S100000, .i32⟩
  | 73 => ⟨S100000x1, .i32⟩
  | 74 => ⟨S1, .i32⟩
  | 75 => ⟨S_, .i32⟩
  | 76 => ⟨S100000x1, .i32⟩
  | 77 => ⟨S100000x1, .i1⟩
  | 78 => ⟨S1x1, .i32⟩
  | 79 => ⟨S100000x1, .i32⟩
  | 80 => ⟨S100000x1, .i1⟩
  | 81 => ⟨S100000x1, .i1⟩
  | 82 => ⟨S_, .i1⟩
  | 83 => ⟨S100000, .i1⟩
  | 84 => ⟨S100000x128, .f32⟩
  | 85 => ⟨S100000x128, .i1⟩
  | 86 => ⟨S_, .f32⟩
  | 87 => ⟨S100000x128, .f32⟩
  | 88 => ⟨S100000x128, .f32⟩
  | 89 => ⟨S100000x128, .f32⟩
  | 90 => ⟨S100000x1, .i32⟩
  | 91 => ⟨S100000, .i32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S1, .i32⟩
  | 101 => ⟨S_, .i32⟩
  | 102 => ⟨S100000x1, .i32⟩
  | 103 => ⟨S100000x1, .i1⟩
  | 104 => ⟨S1x1, .i32⟩
  | 105 => ⟨S100000x1, .i32⟩
  | 106 => ⟨S100000x1, .i1⟩
  | 107 => ⟨S100000x1, .i1⟩
  | 108 => ⟨S_, .i1⟩
  | 109 => ⟨S100000, .i1⟩
  | 110 => ⟨S100000x128, .f32⟩
  | 111 => ⟨S100000x128, .i1⟩
  | 112 => ⟨S_, .f32⟩
  | 113 => ⟨S100000x128, .f32⟩
  | 114 => ⟨S100000x128, .f32⟩
  | 115 => ⟨S100000x128, .f32⟩
  | 116 => ⟨S100000x1, .i32⟩
  | 117 => ⟨S100000, .i32⟩
  | 118 => ⟨S_, .i32⟩
  | 119 => ⟨S100000, .i32⟩
  | 120 => ⟨S100000, .i1⟩
  | 121 => ⟨S_, .i32⟩
  | 122 => ⟨S100000, .i32⟩
  | 123 => ⟨S100000, .i32⟩
  | 124 => ⟨S100000, .i32⟩
  | 125 => ⟨S100000x1, .i32⟩
  | 126 => ⟨S1, .i32⟩
  | 127 => ⟨S_, .i32⟩
  | _ => ⟨S100000x9, .i32⟩

abbrev hbmTy0_1 (i : Nat) : BufTy := match i % 128 with
  | 0 => ⟨S100000x1, .i32⟩
  | 1 => ⟨S100000x1, .i1⟩
  | 2 => ⟨S1x1, .i32⟩
  | 3 => ⟨S100000x1, .i32⟩
  | 4 => ⟨S100000x1, .i1⟩
  | 5 => ⟨S100000x1, .i1⟩
  | 6 => ⟨S_, .i1⟩
  | 7 => ⟨S100000, .i1⟩
  | 8 => ⟨S100000x128, .f32⟩
  | 9 => ⟨S100000x128, .i1⟩
  | 10 => ⟨S_, .f32⟩
  | 11 => ⟨S100000x128, .f32⟩
  | 12 => ⟨S100000x128, .f32⟩
  | 13 => ⟨S100000x128, .f32⟩
  | 14 => ⟨S100000x1, .i32⟩
  | 15 => ⟨S100000, .i32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S1, .i32⟩
  | 25 => ⟨S_, .i32⟩
  | 26 => ⟨S100000x1, .i32⟩
  | 27 => ⟨S100000x1, .i1⟩
  | 28 => ⟨S1x1, .i32⟩
  | 29 => ⟨S100000x1, .i32⟩
  | 30 => ⟨S100000x1, .i1⟩
  | 31 => ⟨S100000x1, .i1⟩
  | 32 => ⟨S_, .i1⟩
  | 33 => ⟨S100000, .i1⟩
  | 34 => ⟨S100000x128, .f32⟩
  | 35 => ⟨S100000x128, .i1⟩
  | 36 => ⟨S_, .f32⟩
  | 37 => ⟨S100000x128, .f32⟩
  | 38 => ⟨S100000x128, .f32⟩
  | 39 => ⟨S100000x128, .f32⟩
  | 40 => ⟨S100000x1, .i32⟩
  | 41 => ⟨S100000, .i32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S1, .i32⟩
  | 51 => ⟨S_, .i32⟩
  | 52 => ⟨S100000x1, .i32⟩
  | 53 => ⟨S100000x1, .i1⟩
  | 54 => ⟨S1x1, .i32⟩
  | 55 => ⟨S100000x1, .i32⟩
  | 56 => ⟨S100000x1, .i1⟩
  | 57 => ⟨S100000x1, .i1⟩
  | 58 => ⟨S_, .i1⟩
  | 59 => ⟨S100000, .i1⟩
  | 60 => ⟨S100000x128, .f32⟩
  | 61 => ⟨S100000x128, .i1⟩
  | 62 => ⟨S_, .f32⟩
  | 63 => ⟨S100000x128, .f32⟩
  | 64 => ⟨S100000x128, .f32⟩
  | 65 => ⟨S100000x128, .f32⟩
  | 66 => ⟨S100000x1, .i32⟩
  | 67 => ⟨S100000, .i32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S1, .i32⟩
  | 77 => ⟨S_, .i32⟩
  | 78 => ⟨S100000x1, .i32⟩
  | 79 => ⟨S100000x1, .i1⟩
  | 80 => ⟨S1x1, .i32⟩
  | 81 => ⟨S100000x1, .i32⟩
  | 82 => ⟨S100000x1, .i1⟩
  | 83 => ⟨S100000x1, .i1⟩
  | 84 => ⟨S_, .i1⟩
  | 85 => ⟨S100000, .i1⟩
  | 86 => ⟨S100000x128, .f32⟩
  | 87 => ⟨S100000x128, .i1⟩
  | 88 => ⟨S_, .f32⟩
  | 89 => ⟨S100000x128, .f32⟩
  | 90 => ⟨S100000x128, .f32⟩
  | 91 => ⟨S100000x128, .f32⟩
  | 92 => ⟨S100000x1, .i32⟩
  | 93 => ⟨S100000, .i32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S1, .i32⟩
  | 103 => ⟨S_, .i32⟩
  | 104 => ⟨S100000x1, .i32⟩
  | 105 => ⟨S100000x1, .i1⟩
  | 106 => ⟨S1x1, .i32⟩
  | 107 => ⟨S100000x1, .i32⟩
  | 108 => ⟨S100000x1, .i1⟩
  | 109 => ⟨S100000x1, .i1⟩
  | 110 => ⟨S_, .i1⟩
  | 111 => ⟨S100000, .i1⟩
  | 112 => ⟨S100000x128, .f32⟩
  | 113 => ⟨S100000x128, .i1⟩
  | 114 => ⟨S_, .f32⟩
  | 115 => ⟨S100000x128, .f32⟩
  | 116 => ⟨S100000x128, .f32⟩
  | 117 => ⟨S100000x128, .f32⟩
  | _ => ⟨S100000x9, .i32⟩

abbrev hbmTy (i : Nat) : BufTy := match i / 128 with
  | 0 => hbmTy0_0 i
  | 1 => hbmTy0_1 i
  | _ => ⟨S100000x9, .i32⟩

abbrev bufTy : (tb : Table) → Fin (tcTables nBuf tb) → BufTy
  | .hbm, ⟨i, _⟩ => hbmTy i
  | _, _ => ⟨S100000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_call4_c : Ref sig .tc := ⟨.hbm, 118, rfl⟩
abbrev main_call4_v0 : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_c_1 : Ref sig .tc := ⟨.hbm, 126, rfl⟩
abbrev main_call4_c_2 : Ref sig .tc := ⟨.hbm, 127, rfl⟩
abbrev main_call4_v6 : Ref sig .tc := ⟨.hbm, 128, rfl⟩
abbrev main_call4_v7 : Ref sig .tc := ⟨.hbm, 129, rfl⟩
abbrev main_call4_v8 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_c_3 : Ref sig .tc := ⟨.hbm, 134, rfl⟩
abbrev main_call4_v12 : Ref sig .tc := ⟨.hbm, 135, rfl⟩
abbrev main_call4_v13 : Ref sig .tc := ⟨.hbm, 136, rfl⟩
abbrev main_call4_v14 : Ref sig .tc := ⟨.hbm, 137, rfl⟩
abbrev main_call4_cst : Ref sig .tc := ⟨.hbm, 138, rfl⟩
abbrev main_call4_v15 : Ref sig .tc := ⟨.hbm, 139, rfl⟩
abbrev main_v19 : Ref sig .tc := ⟨.hbm, 140, rfl⟩
abbrev main_v20 : Ref sig .tc := ⟨.hbm, 141, rfl⟩
abbrev main_v21 : Ref sig .tc := ⟨.hbm, 142, rfl⟩
abbrev main_v22 : Ref sig .tc := ⟨.hbm, 143, rfl⟩
abbrev main_call5_c : Ref sig .tc := ⟨.hbm, 144, rfl⟩
abbrev main_call5_v0 : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_c_1 : Ref sig .tc := ⟨.hbm, 152, rfl⟩
abbrev main_call5_c_2 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_c_3 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_call5_cst : Ref sig .tc := ⟨.hbm, 164, rfl⟩
abbrev main_call5_v15 : Ref sig .tc := ⟨.hbm, 165, rfl⟩
abbrev main_v23 : Ref sig .tc := ⟨.hbm, 166, rfl⟩
abbrev main_v24 : Ref sig .tc := ⟨.hbm, 167, rfl⟩
abbrev main_v25 : Ref sig .tc := ⟨.hbm, 168, rfl⟩
abbrev main_v26 : Ref sig .tc := ⟨.hbm, 169, rfl⟩
abbrev main_call6_c : Ref sig .tc := ⟨.hbm, 170, rfl⟩
abbrev main_call6_v0 : Ref sig .tc := ⟨.hbm, 171, rfl⟩
abbrev main_call6_v1 : Ref sig .tc := ⟨.hbm, 172, rfl⟩
abbrev main_call6_c_0 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_call6_v5 : Ref sig .tc := ⟨.hbm, 177, rfl⟩
abbrev main_call6_c_1 : Ref sig .tc := ⟨.hbm, 178, rfl⟩
abbrev main_call6_c_2 : Ref sig .tc := ⟨.hbm, 179, rfl⟩
abbrev main_call6_v6 : Ref sig .tc := ⟨.hbm, 180, rfl⟩
abbrev main_call6_v7 : Ref sig .tc := ⟨.hbm, 181, rfl⟩
abbrev main_call6_v8 : Ref sig .tc := ⟨.hbm, 182, rfl⟩
abbrev main_call6_v9 : Ref sig .tc := ⟨.hbm, 183, rfl⟩
abbrev main_call6_v10 : Ref sig .tc := ⟨.hbm, 184, rfl⟩
abbrev main_call6_v11 : Ref sig .tc := ⟨.hbm, 185, rfl⟩
abbrev main_call6_c_3 : Ref sig .tc := ⟨.hbm, 186, rfl⟩
abbrev main_call6_v12 : Ref sig .tc := ⟨.hbm, 187, rfl⟩
abbrev main_call6_v13 : Ref sig .tc := ⟨.hbm, 188, rfl⟩
abbrev main_call6_v14 : Ref sig .tc := ⟨.hbm, 189, rfl⟩
abbrev main_call6_cst : Ref sig .tc := ⟨.hbm, 190, rfl⟩
abbrev main_call6_v15 : Ref sig .tc := ⟨.hbm, 191, rfl⟩
abbrev main_v27 : Ref sig .tc := ⟨.hbm, 192, rfl⟩
abbrev main_v28 : Ref sig .tc := ⟨.hbm, 193, rfl⟩
abbrev main_v29 : Ref sig .tc := ⟨.hbm, 194, rfl⟩
abbrev main_v30 : Ref sig .tc := ⟨.hbm, 195, rfl⟩
abbrev main_call7_c : Ref sig .tc := ⟨.hbm, 196, rfl⟩
abbrev main_call7_v0 : Ref sig .tc := ⟨.hbm, 197, rfl⟩
abbrev main_call7_v1 : Ref sig .tc := ⟨.hbm, 198, rfl⟩
abbrev main_call7_c_0 : Ref sig .tc := ⟨.hbm, 199, rfl⟩
abbrev main_call7_v2 : Ref sig .tc := ⟨.hbm, 200, rfl⟩
abbrev main_call7_v3 : Ref sig .tc := ⟨.hbm, 201, rfl⟩
abbrev main_call7_v4 : Ref sig .tc := ⟨.hbm, 202, rfl⟩
abbrev main_call7_v5 : Ref sig .tc := ⟨.hbm, 203, rfl⟩
abbrev main_call7_c_1 : Ref sig .tc := ⟨.hbm, 204, rfl⟩
abbrev main_call7_c_2 : Ref sig .tc := ⟨.hbm, 205, rfl⟩
abbrev main_call7_v6 : Ref sig .tc := ⟨.hbm, 206, rfl⟩
abbrev main_call7_v7 : Ref sig .tc := ⟨.hbm, 207, rfl⟩
abbrev main_call7_v8 : Ref sig .tc := ⟨.hbm, 208, rfl⟩
abbrev main_call7_v9 : Ref sig .tc := ⟨.hbm, 209, rfl⟩
abbrev main_call7_v10 : Ref sig .tc := ⟨.hbm, 210, rfl⟩
abbrev main_call7_v11 : Ref sig .tc := ⟨.hbm, 211, rfl⟩
abbrev main_call7_c_3 : Ref sig .tc := ⟨.hbm, 212, rfl⟩
abbrev main_call7_v12 : Ref sig .tc := ⟨.hbm, 213, rfl⟩
abbrev main_call7_v13 : Ref sig .tc := ⟨.hbm, 214, rfl⟩
abbrev main_call7_v14 : Ref sig .tc := ⟨.hbm, 215, rfl⟩
abbrev main_call7_cst : Ref sig .tc := ⟨.hbm, 216, rfl⟩
abbrev main_call7_v15 : Ref sig .tc := ⟨.hbm, 217, rfl⟩
abbrev main_v31 : Ref sig .tc := ⟨.hbm, 218, rfl⟩
abbrev main_v32 : Ref sig .tc := ⟨.hbm, 219, rfl⟩
abbrev main_v33 : Ref sig .tc := ⟨.hbm, 220, rfl⟩
abbrev main_v34 : Ref sig .tc := ⟨.hbm, 221, rfl⟩
abbrev main_call8_c : Ref sig .tc := ⟨.hbm, 222, rfl⟩
abbrev main_call8_v0 : Ref sig .tc := ⟨.hbm, 223, rfl⟩
abbrev main_call8_v1 : Ref sig .tc := ⟨.hbm, 224, rfl⟩
abbrev main_call8_c_0 : Ref sig .tc := ⟨.hbm, 225, rfl⟩
abbrev main_call8_v2 : Ref sig .tc := ⟨.hbm, 226, rfl⟩
abbrev main_call8_v3 : Ref sig .tc := ⟨.hbm, 227, rfl⟩
abbrev main_call8_v4 : Ref sig .tc := ⟨.hbm, 228, rfl⟩
abbrev main_call8_v5 : Ref sig .tc := ⟨.hbm, 229, rfl⟩
abbrev main_call8_c_1 : Ref sig .tc := ⟨.hbm, 230, rfl⟩
abbrev main_call8_c_2 : Ref sig .tc := ⟨.hbm, 231, rfl⟩
abbrev main_call8_v6 : Ref sig .tc := ⟨.hbm, 232, rfl⟩
abbrev main_call8_v7 : Ref sig .tc := ⟨.hbm, 233, rfl⟩
abbrev main_call8_v8 : Ref sig .tc := ⟨.hbm, 234, rfl⟩
abbrev main_call8_v9 : Ref sig .tc := ⟨.hbm, 235, rfl⟩
abbrev main_call8_v10 : Ref sig .tc := ⟨.hbm, 236, rfl⟩
abbrev main_call8_v11 : Ref sig .tc := ⟨.hbm, 237, rfl⟩
abbrev main_call8_c_3 : Ref sig .tc := ⟨.hbm, 238, rfl⟩
abbrev main_call8_v12 : Ref sig .tc := ⟨.hbm, 239, rfl⟩
abbrev main_call8_v13 : Ref sig .tc := ⟨.hbm, 240, rfl⟩
abbrev main_call8_v14 : Ref sig .tc := ⟨.hbm, 241, rfl⟩
abbrev main_call8_cst : Ref sig .tc := ⟨.hbm, 242, rfl⟩
abbrev main_call8_v15 : Ref sig .tc := ⟨.hbm, 243, rfl⟩
abbrev main_v35 : Ref sig .tc := ⟨.hbm, 244, rfl⟩
abbrev main_v36 : Ref sig .tc := ⟨.hbm, 245, rfl⟩

abbrev nD : Nat := 1
abbrev τ : Topo := Topo.v7x

variable {F : FTy → Type} [FloatOps F]
-- ==== Proof.KernelFrame.lean ====
/-
  The kernel as compiled runs, leaves its ten argument arrays as they were, and returns every semaphore counter to
  zero, at any float values. Nothing is said of the result here: the last of the 49 blocks of 2048 rows overhangs the
  100000 rows, so the columns of the feature block past the end hold unnamed words, and a matrix product at arbitrary
  float values could let them into any row. So the result's staging buffer is described only as holding something.
-/
module

public import proofs.«01_k».proof.Proof.Gen.Kernel.Frame
public import proofs.«01_k».proof.Proof.Gen.Kernel.Skeleton

@[expose] public section

set_option maxRecDepth 16384

noncomputable section

namespace Cert.KernelFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

set_option maxHeartbeats 2000000 in
/-- The body, on whole staging buffers holding `x0 … x9` and an output buffer holding anything, terminates with the
    inputs' buffers as they were and the output's holding something. -/
theorem body_runs (c : Dev nD) (E : Set ℕ) (i : grid0.Coords) (arg1 : Memref sig .tc .vmem S9x2048 .i32) (harg1 : arg1.IsWhole)
    (arg2 : Memref sig .tc .vmem S119x128 .f32) (harg2 : arg2.IsWhole)
    (arg3 : Memref sig .tc .vmem S5x128 .f32) (harg3 : arg3.IsWhole)
    (arg4 : Memref sig .tc .vmem S12x128 .f32) (harg4 : arg4.IsWhole)
    (arg5 : Memref sig .tc .vmem S12x128 .f32) (harg5 : arg5.IsWhole)
    (arg6 : Memref sig .tc .vmem S10x128 .f32) (harg6 : arg6.IsWhole)
    (arg7 : Memref sig .tc .vmem S6x128 .f32) (harg7 : arg7.IsWhole)
    (arg8 : Memref sig .tc .vmem S6x128 .f32) (harg8 : arg8.IsWhole)
    (arg9 : Memref sig .tc .vmem S2x128 .f32) (harg9 : arg9.IsWhole)
    (arg10 : Memref sig .tc .vmem S2x128 .f32) (harg10 : arg10.IsWhole)
    (arg11 : Memref sig .tc .vmem S2048x128 .f32) (harg11 : arg11.IsWhole)
    (x0 : Vec F S9x2048 .i32) (x1 : Vec F S119x128 .f32) (x2 : Vec F S5x128 .f32) (x3 : Vec F S12x128 .f32) (x4 : Vec F S12x128 .f32) (x5 : Vec F S10x128 .f32) (x6 : Vec F S6x128 .f32) (x7 : Vec F S6x128 .f32) (x8 : Vec F S2x128 .f32) (x9 : Vec F S2x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)) -∗ K ⟨⟩))
      ⊢ wp frame (wpE (defs₀ (F := F)) Variants.none c none) E (cc0__tc_kernel i arg1 harg1 arg2 harg2 arg3 harg3 arg4 harg4 arg5 harg5 arg6 harg6 arg7 harg7 arg8 harg8 arg9 harg9 arg10 harg10 arg11 harg11) K := by
  simp only [cc0__tc_kernel_eq_skeleton]; unfold cc0__tc_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _, _; isplitr
  swap; · iexact H10
  ipureintro; rfl

/-! ## The proof data -/

/-- The output window is the one of which nothing is said. -/
def forgotten : Fin 11 → Bool := fun w => w.val == 10
theorem forgotten_0 : forgotten 0 = false := rfl
theorem forgotten_1 : forgotten 1 = false := rfl
theorem forgotten_2 : forgotten 2 = false := rfl
theorem forgotten_3 : forgotten 3 = false := rfl
theorem forgotten_4 : forgotten 4 = false := rfl
theorem forgotten_5 : forgotten 5 = false := rfl
theorem forgotten_6 : forgotten 6 = false := rfl
theorem forgotten_7 : forgotten 7 = false := rfl
theorem forgotten_8 : forgotten 8 = false := rfl
theorem forgotten_9 : forgotten 9 = false := rfl
theorem forgotten_10 : forgotten 10 = true := rfl

/-- The feature block at point `t` as the fetch reads it (2048 columns, or the 1696 left at the last point), filled out
    to the staging buffer's 2048 columns with the zero word. -/
def featureBlock (c : Dev nD) (t : Fin cfg0.N) : Vec F S9x2048 .i32 :=
  win0_0.fill (grid0.coords t) (fun _ => (0#32 : BitVec 32)) (iblk m c 0 t)

/-- The arrays as the region finds them; after the body each input's buffer holds its block; the output's is unnamed. -/
def dats (_ : Fin 1) (c : Dev nD) : Dat τ (Elt F) Unit ℕ (UR sig nD τ) ℕ cfg0 c where
  A w := V m c (Pipeline.arrRef spec0 w)
  after w t := match w with
    | ⟨0, _⟩ => featureBlock m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the proof data says each input's buffer holds after the body. -/
theorem after_0 (c : Dev nD) (t : Fin cfg0.N) : (dats m 0 c).after 0 t = featureBlock m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]

/-- What the body finds: the feature block just fetched, unnamed words past its end; each table whole. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- The body the pipeline calls at point `t`. -/
theorem body_row (t : Fin cfg0.N) :
    defs₀ (F := F) .tc cfg0.body (cfg0.bodyArgs t (cfg0.slots t)) = bodyAt0 t := by
  unfold defs₀; rw [Defs.onTc_tc]

/-- At every point the body does what the pipeline asks of it: the inputs' buffers come back holding their blocks (the
    feature block's on the columns inside the array). -/
theorem body_obligation (c : Dev nD) :
    BodyObligationLoose (dats (F := F) m 0 c) (defs₀ (F := F)) Variants.none () Set.univ forgotten := fun t => by
  rw [bigSep_W0, bigSep_W0, body_row]
  simp only [forgotten_0, forgotten_1, forgotten_2, forgotten_3, forgotten_4, forgotten_5, forgotten_6, forgotten_7, forgotten_8, forgotten_9, forgotten_10]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 m c t d0, before_1 m c t d1, before_2 m c t d2, before_3 m c t d3, before_4 m c t d4, before_5 m c t d5, before_6 m c t d6, before_7 m c t d7, before_8 m c t d8, before_9 m c t d9]
  iapply (body_runs c Set.univ (grid0.coords t) _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]
  · iexists d0
    change _ ⊢ owns (c : Thread nD τ) (win0_0.stage (cfg0.slots t 0)) fullShare
      (win0_0.fill (grid0.coords t) d0 (win0_0.cut (grid0.coords t) (featureBlock m c t)))
    rw [show win0_0.cut (grid0.coords t) (featureBlock m c t) = iblk m c 0 t from win0_0.cut_fill _ _ _]
    try iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The run -/

set_option backward.isDefEq.respectTransparency.types false in
set_option maxHeartbeats 800000 in
/-- Every execution terminates; each input array ends as the region found it, and every counter ends at zero. -/
theorem run : θ_run defs (onTc (τ := τ) (main (F := F))) (s₀ m ρ)
    (fun r => Pipeline.RDat.FramePost (cfgs 0) (fun c => (dats m 0 c).toRForget forgotten) (V m) r ∧ r.2.sem = fun _ => 0) :=
  Pipeline.θ_run_frame_forget (Q' := _) cfgs (dats m) (0 : Fin 1) launch0 defs₀ Variants.none forgotten m ρ main
    (hbody := body_obligation m) (hshare := fun c => (dats m 0 c).share_full fun _ => rfl)
    (howed := fun _ _ => rfl) (V := V m) (hmain := hmain m Variants.none) (hA := A_eq m) (hΦ := fun _ _ => rfl)

/-- THE FRAME of the kernel, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c)),
      (Pipeline.RDat.FramePost.arr_in h.1 c 9 rfl).trans ((A_eq m c 9).trans (V_main_arg9 m c))⟩, h.2⟩) (run m ρ)

end Cert.KernelFrame

end
-- ==== Proof.Block.lean ====
/-
  What one run of the kernel body computes. From a feature block of 2048 columns and the nine tables the body forms,
  for each table, the difference of its rows 1 and 0, stacks the nine differences and the sum of the nine rows 0 into a
  matrix of 20 rows, and multiplies it by the feature block stacked with itself and two rows of ones. `blockOut` names
  the 2048 × 128 product; `body_runs` says the body leaves it in the output's staging buffer.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelBlock

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rows the body reads: rows 0 and 1 of a table with `d` rows -/

abbrev row2_0 (X : Vec F S2x128 .f32) : Vec F S1x128 .f32 :=
  View.ld X (Rect.unit (s := S2x128) ![0, 0] S1x128.size inb_S2x128_S1x128_0_0)
abbrev row2_1 (X : Vec F S2x128 .f32) : Vec F S1x128 .f32 :=
  View.ld X (Rect.unit (s := S2x128) ![1, 0] S1x128.size inb_S2x128_S1x128_1_0)
abbrev row5_0 (X : Vec F S5x128 .f32) : Vec F S1x128 .f32 :=
  View.ld X (Rect.unit (s := S5x128) ![0, 0] S1x128.size inb_S5x128_S1x128_0_0)
abbrev row5_1 (X : Vec F S5x128 .f32) : Vec F S1x128 .f32 :=
  View.ld X (Rect.unit (s := S5x128) ![1, 0] S1x128.size inb_S5x128_S1x128_1_0)
abbrev row6_0 (X : Vec F S6x128 .f32) : Vec F S1x128 .f32 :=
  View.ld X (Rect.unit (s := S6x128) ![0, 0] S1x128.size inb_S6x128_S1x128_0_0)
abbrev row6_1 (X : Vec F S6x128 .f32) : Vec F S1x128 .f32 :=
  View.ld X (Rect.unit (s := S6x128) ![1, 0] S1x128.size inb_S6x128_S1x128_1_0)
abbrev row10_0 (X : Vec F S10x128 .f32) : Vec F S1x128 .f32 :=
  View.ld X (Rect.unit (s := S10x128) ![0, 0] S1x128.size inb_S10x128_S1x128_0_0)
abbrev row10_1 (X : Vec F S10x128 .f32) : Vec F S1x128 .f32 :=
  View.ld X (Rect.unit (s := S10x128) ![1, 0] S1x128.size inb_S10x128_S1x128_1_0)
abbrev row12_0 (X : Vec F S12x128 .f32) : Vec F S1x128 .f32 :=
  View.ld X (Rect.unit (s := S12x128) ![0, 0] S1x128.size inb_S12x128_S1x128_0_0)
abbrev row12_1 (X : Vec F S12x128 .f32) : Vec F S1x128 .f32 :=
  View.ld X (Rect.unit (s := S12x128) ![1, 0] S1x128.size inb_S12x128_S1x128_1_0)
abbrev row119_0 (X : Vec F S119x128 .f32) : Vec F S1x128 .f32 :=
  View.ld X (Rect.unit (s := S119x128) ![0, 0] S1x128.size inb_S119x128_S1x128_0_0)
abbrev row119_1 (X : Vec F S119x128 .f32) : Vec F S1x128 .f32 :=
  View.ld X (Rect.unit (s := S119x128) ![1, 0] S1x128.size inb_S119x128_S1x128_1_0)

/-- What the body stores, from the feature block `x0` and the nine tables `x1 … x9`. -/
def blockOut (x0 : Vec F S9x2048 .i32) (x1 : Vec F S119x128 .f32) (x2 : Vec F S5x128 .f32) (x3 : Vec F S12x128 .f32) (x4 : Vec F S12x128 .f32) (x5 : Vec F S10x128 .f32) (x6 : Vec F S6x128 .f32) (x7 : Vec F S6x128 .f32) (x8 : Vec F S2x128 .f32) (x9 : Vec F S2x128 .f32) : Vec F S2048x128 .f32 :=
  k0_pay9 (k0_pay1 (row119_1 x1) (row119_0 x1)) (k0_pay2 (row5_1 x2) (row5_0 x2)) (k0_pay3 (row12_1 x3) (row12_0 x3)) (k0_pay4 (row12_1 x4) (row12_0 x4)) (k0_pay5 (row10_1 x5) (row10_0 x5)) (k0_pay6 (row6_1 x6) (row6_0 x6)) (k0_pay7 (row6_1 x7) (row6_0 x7)) (k0_pay8 (row2_1 x8) (row2_0 x8))
    (row2_1 x9) (row2_0 x9)
    (row119_0 x1) (row5_0 x2) (row12_0 x3) (row12_0 x4) (row10_0 x5) (row6_0 x6) (row6_0 x7) (row2_0 x8) (row2_0 x9)
    (View.ld x0 (Rect.unit (s := S9x2048) ![0, 0] S9x2048.size inb_S9x2048_S9x2048_0_0))

theorem zero_offset : (![0, 0] : Fin 2 → Nat) = fun _ => 0 := by funext a; fin_cases a <;> rfl

/-- The body's one store covers the whole staging buffer. -/
theorem whole_store_covers (w : Vec F S2048x128 .f32) (y : S2048x128.Idx) :
    ∃ p ∈ [(⟨Rect.unit (s := S2048x128) ![0, 0] S2048x128.size inb_S2048x128_S2048x128_0_0, w⟩ : View.Piece (Elt F) S2048x128 .f32)], y ∈ p.1.set :=
  ⟨_, List.mem_singleton_self _, View.mem_set_unit_zero zero_offset inb_S2048x128_S2048x128_0_0 y⟩

/-! ## The body -/

set_option maxHeartbeats 2000000 in
/-- The body, on whole staging buffers holding `x0 … x9` and an output buffer holding anything, terminates with the
    inputs' buffers as they were and the output's holding `blockOut`. -/
theorem body_runs (c : Dev nD) (E : Set ℕ) (i : grid0.Coords) (arg1 : Memref sig .tc .vmem S9x2048 .i32) (harg1 : arg1.IsWhole)
    (arg2 : Memref sig .tc .vmem S119x128 .f32) (harg2 : arg2.IsWhole)
    (arg3 : Memref sig .tc .vmem S5x128 .f32) (harg3 : arg3.IsWhole)
    (arg4 : Memref sig .tc .vmem S12x128 .f32) (harg4 : arg4.IsWhole)
    (arg5 : Memref sig .tc .vmem S12x128 .f32) (harg5 : arg5.IsWhole)
    (arg6 : Memref sig .tc .vmem S10x128 .f32) (harg6 : arg6.IsWhole)
    (arg7 : Memref sig .tc .vmem S6x128 .f32) (harg7 : arg7.IsWhole)
    (arg8 : Memref sig .tc .vmem S6x128 .f32) (harg8 : arg8.IsWhole)
    (arg9 : Memref sig .tc .vmem S2x128 .f32) (harg9 : arg9.IsWhole)
    (arg10 : Memref sig .tc .vmem S2x128 .f32) (harg10 : arg10.IsWhole)
    (arg11 : Memref sig .tc .vmem S2048x128 .f32) (harg11 : arg11.IsWhole)
    (x0 : Vec F S9x2048 .i32) (x1 : Vec F S119x128 .f32) (x2 : Vec F S5x128 .f32) (x3 : Vec F S12x128 .f32) (x4 : Vec F S12x128 .f32) (x5 : Vec F S10x128 .f32) (x6 : Vec F S6x128 .f32) (x7 : Vec F S6x128 .f32) (x8 : Vec F S2x128 .f32) (x9 : Vec F S2x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare (blockOut x0 x1 x2 x3 x4 x5 x6 x7 x8 x9)) -∗ K ⟨⟩))
      ⊢ wp frame (wpE (defs₀ (F := F)) Variants.none c none) E (cc0__tc_kernel i arg1 harg1 arg2 harg2 arg3 harg3 arg4 harg4 arg5 harg5 arg6 harg6 arg7 harg7 arg8 harg8 arg9 harg9 arg10 harg10 arg11 harg11) K := by
  simp only [cc0__tc_kernel_eq_skeleton]; unfold cc0__tc_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact (View.read_writes_eq_canon _ _ _ (whole_store_covers _)).trans (View.canon_unit_zero zero_offset _ _)

end Cert.KernelBlock

end
-- ==== Proof.BlockValue.lean ====
/-
  The block's product at real-number arithmetic, entry by entry. Entry `(r, j)` is built from the nine feature words of
  row `r` and the rows 0 and 1 of the nine tables at lane `j` only, so the block's rows do not influence one another.
-/
module

public import proofs.«01_k».proof.Proof.Block
public import Idealize.ShloMosaic.Lib.Pointwise

@[expose] public section

set_option maxRecDepth 16384

noncomputable section

namespace Cert.KernelBlock

open Cert.KernelIdeal Cert.KernelIdeal.Gen
open Idealize.ShloMosaic

/-- The sum of nine values, added from the left. -/
def leftSum (v : Fin 9 → EReal) : EReal := v 0 + v 1 + v 2 + v 3 + v 4 + v 5 + v 6 + v 7 + v 8

/-- One entry of the kernel's result, from the nine feature words `w` of its row and, of each table, the entries
    `lo k` of row 0 and `hi k` of row 1 in its lane: the feature-weighted sum of the differences `hi k − lo k`, the
    feature-weighted sum of what is left of the differences after a first rounding (exactly computed: each less
    itself), the sum of the `lo k`, and what is left of that sum after a first rounding. -/
def entry (w : Fin 9 → BitVec 32) (lo hi : Fin 9 → EReal) : EReal :=
  (∑ k : Fin 9, (((w k).toInt : ℝ) : EReal) * (hi k - lo k))
    + ((∑ k : Fin 9, (((w k).toInt : ℝ) : EReal) * ((hi k - lo k) - (hi k - lo k)))
      + (leftSum lo + (leftSum lo - leftSum lo)))

/-- Row `i` of the nine tables at lane `j`. -/
def lane (i : Fin 2) (x1 : Vec Ideal S119x128 .f32) (x2 : Vec Ideal S5x128 .f32) (x3 : Vec Ideal S12x128 .f32) (x4 : Vec Ideal S12x128 .f32) (x5 : Vec Ideal S10x128 .f32) (x6 : Vec Ideal S6x128 .f32) (x7 : Vec Ideal S6x128 .f32) (x8 : Vec Ideal S2x128 .f32) (x9 : Vec Ideal S2x128 .f32)  (j : Fin 128) : Fin 9 → EReal :=
  ![x1 (ix2 ⟨i.val, lt_of_lt_of_le i.isLt (by decide)⟩ j), x2 (ix2 ⟨i.val, lt_of_lt_of_le i.isLt (by decide)⟩ j), x3 (ix2 ⟨i.val, lt_of_lt_of_le i.isLt (by decide)⟩ j), x4 (ix2 ⟨i.val, lt_of_lt_of_le i.isLt (by decide)⟩ j), x5 (ix2 ⟨i.val, lt_of_lt_of_le i.isLt (by decide)⟩ j), x6 (ix2 ⟨i.val, lt_of_lt_of_le i.isLt (by decide)⟩ j), x7 (ix2 ⟨i.val, lt_of_lt_of_le i.isLt (by decide)⟩ j), x8 (ix2 ⟨i.val, lt_of_lt_of_le i.isLt (by decide)⟩ j), x9 (ix2 ⟨i.val, lt_of_lt_of_le i.isLt (by decide)⟩ j)]

/-! ## The pieces of the product -/

/-- Nine rows stacked, read at row `k`. -/
theorem stackedRows_apply (v0 v1 v2 v3 v4 v5 v6 v7 v8 : FVec Ideal S1x128 .f32) (k : Fin 9) (j : Fin 128) :
    concatenate S9x128 0 [⟨S1x128, v0⟩, ⟨S1x128, v1⟩, ⟨S1x128, v2⟩, ⟨S1x128, v3⟩, ⟨S1x128, v4⟩, ⟨S1x128, v5⟩, ⟨S1x128, v6⟩, ⟨S1x128, v7⟩, ⟨S1x128, v8⟩] concatenates_S1x128_S1x128_S1x128_S1x128_S1x128_S1x128_S1x128_S1x128_S1x128_S9x128_d0 (ix2 k j)
      = (![v0 (ix2 0 j), v1 (ix2 0 j), v2 (ix2 0 j), v3 (ix2 0 j), v4 (ix2 0 j), v5 (ix2 0 j), v6 (ix2 0 j), v7 (ix2 0 j), v8 (ix2 0 j)] : Fin 9 → EReal) k := by
  pointwise
  fin_cases k <;> rfl

/-- A sum over 20 positions, as two runs of nine and two single positions. -/
theorem sum_twenty (f : Fin 20 → EReal) :
    ∑ k, f k = (∑ k : Fin 9, f ⟨k.val, by omega⟩) + ((∑ k : Fin 9, f ⟨k.val + 9, by omega⟩) + (f 18 + f 19)) := by
  rw [Fin.sum_univ_add (a := 9) (b := 11) f, Fin.sum_univ_add (a := 9) (b := 2), Fin.sum_univ_two]
  congr 2

/-- The product of a stack of 20 rows by a stack of 20 rows, contracted over the 20 rows. -/
theorem product_apply (A : FVec Ideal S20x2048 .bf16) (B : FVec Ideal S20x128 .bf16) (r : Fin 2048) (j : Fin 128) :
    matmul dot_S20x2048_S20x128_S2048x128_0_0_1_1_n_n none A B (constant (F := Ideal) S2048x128 .f32 0x00000000#32) (ix2 r j)
      = ∑ k : Fin 20, A (ix2 k r) * B (ix2 k j) := by
  pointwise

section
variable (a b : FVec Ideal S9x128 .bf16) (c d : FVec Ideal S1x128 .bf16) (j : Fin 128)

/-- The right-hand stack: the differences, what is left of them, the sum, what is left of it. -/
abbrev rightStack : FVec Ideal S20x128 .bf16 :=
  concatenate S20x128 0 [⟨S9x128, a⟩, ⟨S9x128, b⟩, ⟨S1x128, c⟩, ⟨S1x128, d⟩] concatenates_S9x128_S9x128_S1x128_S1x128_S20x128_d0

theorem rightStack_first (k : Fin 9) : rightStack a b c d (ix2 ⟨k.val, by omega⟩ j) = a (ix2 k j) := by
  unfold rightStack; pointwise
theorem rightStack_second (k : Fin 9) : rightStack a b c d (ix2 ⟨k.val + 9, by omega⟩ j) = b (ix2 k j) := by
  unfold rightStack; pointwise
  rw [dif_neg (by omega), dif_pos (by omega)]
  exact congrArg (fun q => b (ix2 q j)) (Fin.ext (Nat.add_sub_cancel k.val 9))
theorem rightStack_third : rightStack a b c d (ix2 18 j) = c (ix2 0 j) := by
  unfold rightStack; pointwise
theorem rightStack_fourth : rightStack a b c d (ix2 19 j) = d (ix2 0 j) := by
  unfold rightStack; pointwise
end

section
variable (a b : FVec Ideal S9x2048 .bf16) (c : FVec Ideal S2x2048 .bf16) (r : Fin 2048)

/-- The left-hand stack: the features twice, and two rows of ones. -/
abbrev leftStack : FVec Ideal S20x2048 .bf16 :=
  concatenate S20x2048 0 [⟨S9x2048, a⟩, ⟨S9x2048, b⟩, ⟨S2x2048, c⟩] concatenates_S9x2048_S9x2048_S2x2048_S20x2048_d0

theorem leftStack_first (k : Fin 9) : leftStack a b c (ix2 ⟨k.val, by omega⟩ r) = a (ix2 k r) := by
  unfold leftStack; pointwise
theorem leftStack_second (k : Fin 9) : leftStack a b c (ix2 ⟨k.val + 9, by omega⟩ r) = b (ix2 k r) := by
  unfold leftStack; pointwise
  rw [dif_neg (by omega), dif_pos (by omega)]
  exact congrArg (fun q => b (ix2 q r)) (Fin.ext (Nat.add_sub_cancel k.val 9))
theorem leftStack_third : leftStack a b c (ix2 18 r) = c (ix2 0 r) := by
  unfold leftStack; pointwise
theorem leftStack_fourth : leftStack a b c (ix2 19 r) = c (ix2 1 r) := by
  unfold leftStack; pointwise
end

/-! ## The rows loaded -/

theorem row2_0_apply (X : Vec Ideal S2x128 .f32) (j : Fin 128) : row2_0 (F := Ideal) X (ix2 0 j) = X (ix2 0 j) := by pointwise [row2_0]
theorem row2_1_apply (X : Vec Ideal S2x128 .f32) (j : Fin 128) : row2_1 (F := Ideal) X (ix2 0 j) = X (ix2 1 j) := by pointwise [row2_1]
theorem row5_0_apply (X : Vec Ideal S5x128 .f32) (j : Fin 128) : row5_0 (F := Ideal) X (ix2 0 j) = X (ix2 0 j) := by pointwise [row5_0]
theorem row5_1_apply (X : Vec Ideal S5x128 .f32) (j : Fin 128) : row5_1 (F := Ideal) X (ix2 0 j) = X (ix2 1 j) := by pointwise [row5_1]
theorem row6_0_apply (X : Vec Ideal S6x128 .f32) (j : Fin 128) : row6_0 (F := Ideal) X (ix2 0 j) = X (ix2 0 j) := by pointwise [row6_0]
theorem row6_1_apply (X : Vec Ideal S6x128 .f32) (j : Fin 128) : row6_1 (F := Ideal) X (ix2 0 j) = X (ix2 1 j) := by pointwise [row6_1]
theorem row10_0_apply (X : Vec Ideal S10x128 .f32) (j : Fin 128) : row10_0 (F := Ideal) X (ix2 0 j) = X (ix2 0 j) := by pointwise [row10_0]
theorem row10_1_apply (X : Vec Ideal S10x128 .f32) (j : Fin 128) : row10_1 (F := Ideal) X (ix2 0 j) = X (ix2 1 j) := by pointwise [row10_1]
theorem row12_0_apply (X : Vec Ideal S12x128 .f32) (j : Fin 128) : row12_0 (F := Ideal) X (ix2 0 j) = X (ix2 0 j) := by pointwise [row12_0]
theorem row12_1_apply (X : Vec Ideal S12x128 .f32) (j : Fin 128) : row12_1 (F := Ideal) X (ix2 0 j) = X (ix2 1 j) := by pointwise [row12_1]
theorem row119_0_apply (X : Vec Ideal S119x128 .f32) (j : Fin 128) : row119_0 (F := Ideal) X (ix2 0 j) = X (ix2 0 j) := by pointwise [row119_0]
theorem row119_1_apply (X : Vec Ideal S119x128 .f32) (j : Fin 128) : row119_1 (F := Ideal) X (ix2 0 j) = X (ix2 1 j) := by pointwise [row119_1]

/-- The feature block loaded is the feature block. -/
theorem features_apply (X : Vec Ideal S9x2048 .i32) :
    View.ld X (Rect.unit (s := S9x2048) ![0, 0] S9x2048.size inb_S9x2048_S9x2048_0_0) = X :=
  View.ld_unit_zero zero_offset _ X

/-! ## The entry -/

/-- Entry `(r, j)` of the block. -/
theorem blockOut_apply (x0 : Vec Ideal S9x2048 .i32) (x1 : Vec Ideal S119x128 .f32) (x2 : Vec Ideal S5x128 .f32) (x3 : Vec Ideal S12x128 .f32) (x4 : Vec Ideal S12x128 .f32) (x5 : Vec Ideal S10x128 .f32) (x6 : Vec Ideal S6x128 .f32) (x7 : Vec Ideal S6x128 .f32) (x8 : Vec Ideal S2x128 .f32) (x9 : Vec Ideal S2x128 .f32)  (r : Fin 2048) (j : Fin 128) :
    blockOut (F := Ideal) x0 x1 x2 x3 x4 x5 x6 x7 x8 x9 (ix2 r j)
      = entry (fun k => x0 (ix2 k r)) (lane 0 x1 x2 x3 x4 x5 x6 x7 x8 x9 j) (lane 1 x1 x2 x3 x4 x5 x6 x7 x8 x9 j) := by
  unfold blockOut k0_pay9
  dsimp only
  refine (product_apply _ _ r j).trans ?_
  rw [sum_twenty]
  simp only [rightStack_first, rightStack_second, rightStack_third, rightStack_fourth, leftStack_first, leftStack_second,
    leftStack_third, leftStack_fourth, ValueIdx.truncf_apply, ValueIdx.extf_apply, ValueIdx.subf_apply, ValueIdx.addf_apply,
    stackedRows_apply, features_apply, shapeCast_self, row2_0_apply, row2_1_apply, row5_0_apply, row5_1_apply, row6_0_apply, row6_1_apply, row10_0_apply, row10_1_apply, row12_0_apply, row12_1_apply, row119_0_apply, row119_1_apply]
  simp only [k0_pay1, k0_pay2, k0_pay3, k0_pay4, k0_pay5, k0_pay6, k0_pay7, k0_pay8, ValueIdx.subf_apply]
  rw [row119_0_apply x1 j, row119_1_apply x1 j, row5_0_apply x2 j, row5_1_apply x2 j, row12_0_apply x3 j, row12_1_apply x3 j, row12_0_apply x4 j, row12_1_apply x4 j, row10_0_apply x5 j, row10_1_apply x5 j, row6_0_apply x6 j, row6_1_apply x6 j, row6_0_apply x7 j, row6_1_apply x7 j, row2_0_apply x8 j, row2_1_apply x8 j, row2_0_apply x9 j, row2_1_apply x9 j, features_apply]
  rw [show broadcast S2x2048 (FloatOps.ofBits (F := Ideal) FTy.bf16 16256#16) (ix2 0 r) = (1 : EReal) from Ideal.ofBits_one_bf16,
    show broadcast S2x2048 (FloatOps.ofBits (F := Ideal) FTy.bf16 16256#16) (ix2 1 r) = (1 : EReal) from Ideal.ofBits_one_bf16,
    one_mul, one_mul]
  refine congrArg₂ (· + ·) (Finset.sum_congr rfl fun k _ => ?_) (congrArg₂ (· + ·) (Finset.sum_congr rfl fun k _ => ?_) rfl)
  · fin_cases k <;> rfl
  · fin_cases k <;> rfl

end Cert.KernelBlock

end
-- ==== Proof.IdealRun.lean ====
/-
  The idealized kernel's run. At real-number arithmetic row `r` of a block's product depends on column `r` of the feature
  block alone, so the unnamed words past the array's end, in the last block, touch only rows that are never written
  back. The run therefore leaves in every write-back the block computed from the features inside the array.
-/
module

public import proofs.«01_k».proof.Proof.BlockValue

@[expose] public section

set_option maxRecDepth 16384

noncomputable section

namespace Cert.IdealRun

open Cert.KernelIdeal Cert.KernelIdeal.Gen Cert.KernelBlock

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Rows inside the array do not see the words past its end -/

/-- A filled block read inside the part that the transfer moves does not depend on what the rest was filled with. -/
theorem fill_moved {i : grid0.Coords} {α : Type} (d d' : S9x2048.Idx → α) (g : (win0_0.xblock i).Idx → α)
    {y : S9x2048.Idx} (h : win0_0.moved i y = true) : win0_0.fill i d g y = win0_0.fill i d' g y := by
  unfold Window.fill; rw [dif_pos h, dif_pos h]

/-- Every feature of a row inside the array is moved by the fetch: the two windows are cut at the same row. -/
theorem column_moved (i : grid0.Coords) (k : Fin 9) (r : Fin 2048) (h : r.val < win0_10.xsize i 0) :
    win0_0.moved i (ix2 k r) = true := by
  rw [Window.moved_iff]
  intro a
  match a with
  | ⟨0, _⟩ => exact k.isLt
  | ⟨1, _⟩ => exact h

/-- The part of the block's product that is written back does not depend on what fills the feature block past the
    array's end. -/
theorem cut_blockOut (i : grid0.Coords) (d d' : S9x2048.Idx → BitVec 32) (g : (win0_0.xblock i).Idx → BitVec 32)
    (x1 : Vec Ideal S119x128 .f32) (x2 : Vec Ideal S5x128 .f32) (x3 : Vec Ideal S12x128 .f32) (x4 : Vec Ideal S12x128 .f32) (x5 : Vec Ideal S10x128 .f32) (x6 : Vec Ideal S6x128 .f32) (x7 : Vec Ideal S6x128 .f32) (x8 : Vec Ideal S2x128 .f32) (x9 : Vec Ideal S2x128 .f32) :
    win0_10.cut i (blockOut (F := Ideal) (win0_0.fill i d g) x1 x2 x3 x4 x5 x6 x7 x8 x9)
      = win0_10.cut i (blockOut (F := Ideal) (win0_0.fill i d' g) x1 x2 x3 x4 x5 x6 x7 x8 x9) := by
  funext y
  have hy : (win0_10.xinj i y 0).val < win0_10.xsize i 0 := (y 0).isLt
  show blockOut (F := Ideal) _ x1 x2 x3 x4 x5 x6 x7 x8 x9 (win0_10.xinj i y) = blockOut (F := Ideal) _ x1 x2 x3 x4 x5 x6 x7 x8 x9 (win0_10.xinj i y)
  generalize win0_10.xinj i y = z at hy
  obtain ⟨r, l, rfl⟩ : ∃ (r : Fin 2048) (l : Fin 128), z = ix2 r l := ⟨z 0, z 1, eq_ix2 z⟩
  rw [blockOut_apply, blockOut_apply]
  congr 1
  funext k
  exact fill_moved d d' g (column_moved i k r hy)

/-! ## The proof data -/

/-- The feature block at point `t` as the fetch reads it (2048 columns, or the 1696 left at the last point), filled out
    to the staging buffer's 2048 columns with the zero word. -/
def featureBlock (c : Dev nD) (t : Fin cfg0.N) : Vec Ideal S9x2048 .i32 :=
  win0_0.fill (grid0.coords t) (fun _ => (0#32 : BitVec 32)) (iblk m c 0 t)

/-- The block that point `t` computes. -/
def resultBlock (c : Dev nD) (t : Fin cfg0.N) : Vec Ideal S2048x128 .f32 :=
  blockOut (featureBlock m c t) (iblk m c 1 t) (iblk m c 2 t) (iblk m c 3 t) (iblk m c 4 t) (iblk m c 5 t) (iblk m c 6 t) (iblk m c 7 t) (iblk m c 8 t) (iblk m c 9 t)

/-- The arrays as the region finds them; after the body each input's buffer holds its block and the output's the block
    computed. -/
def dats (_ : Fin 1) (c : Dev nD) : Dat τ (Elt Ideal) Unit ℕ (UR sig nD τ) ℕ cfg0 c where
  A w := V m c (Pipeline.arrRef spec0 w)
  after w t := match w with
    | ⟨0, _⟩ => featureBlock m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => resultBlock m c t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the proof data says each buffer holds after the body. -/
theorem after_0 (c : Dev nD) (t : Fin cfg0.N) : (dats m 0 c).after 0 t = featureBlock m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = resultBlock m c t := by dsimp only [dats]

/-- What the body finds: the feature block just fetched, unnamed words past its end; each table whole. -/
theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- The body the pipeline calls at point `t`. -/
theorem body_row (t : Fin cfg0.N) :
    defs₀ (F := Ideal) .tc cfg0.body (cfg0.bodyArgs t (cfg0.slots t)) = bodyAt0 t := by
  unfold defs₀; rw [Defs.onTc_tc]

set_option maxHeartbeats 1000000 in
/-- At every point the body does what the pipeline asks of it: the inputs' buffers come back holding their blocks, the
    output's the block computed (each clipped window's on the part inside the array). -/
theorem body_obligation (c : Dev nD) :
    BodyObligationLoose (dats m 0 c) (defs₀ (F := Ideal)) Variants.none () Set.univ := fun t => by
  rw [bigSep_W0, bigSep_W0, body_row]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0 m c t d0, before_1 m c t d1, before_2 m c t d2, before_3 m c t d3, before_4 m c t d4, before_5 m c t d5, before_6 m c t d6, before_7 m c t d7, before_8 m c t d8, before_9 m c t d9]
  iapply (body_runs c Set.univ (grid0.coords t) _ _ _ _ _ _ _ _ _ _ _ _ _ _ _ _ _ _ _ _ _ _
    (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]
  · iexists d0
    change _ ⊢ owns (c : Thread nD τ) (win0_0.stage (cfg0.slots t 0)) fullShare
      (win0_0.fill (grid0.coords t) d0 (win0_0.cut (grid0.coords t) (featureBlock m c t)))
    rw [show win0_0.cut (grid0.coords t) (featureBlock m c t) = iblk m c 0 t from win0_0.cut_fill _ _ _]
    try iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists (blockOut (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t))
  change _ ⊢ owns (c : Thread nD τ) (win0_10.stage (cfg0.slots t 10)) fullShare
    (win0_10.fill (grid0.coords t) (blockOut (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t))
      (win0_10.cut (grid0.coords t) (resultBlock m c t)))
  rw [show win0_10.fill (grid0.coords t) (blockOut (win0_0.fill (grid0.coords t) d0 (iblk m c 0 t)) (iblk m c 1 t) (iblk m c 2 t) (iblk m c 3 t) (iblk m c 4 t) (iblk m c 5 t) (iblk m c 6 t) (iblk m c 7 t) (iblk m c 8 t) (iblk m c 9 t))
      (win0_10.cut (grid0.coords t) (resultBlock m c t)) = _ from
    win0_10.fill_congr_cut (grid0.coords t) (cut_blockOut (grid0.coords t) d0 _ (iblk m c 0 t) (iblk m c 1 t) (iblk m c 2 t) (iblk m c 3 t) (iblk m c 4 t) (iblk m c 5 t) (iblk m c 6 t) (iblk m c 7 t) (iblk m c 8 t) (iblk m c 9 t))]

/-! ## The run -/

set_option backward.isDefEq.respectTransparency.types false in
set_option maxHeartbeats 800000 in
/-- Every execution terminates with each array holding what the proof data says, and every counter at zero. -/
theorem run : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Cert.IdealRun

end
-- ==== Proof.ResultArray.lean ====
/-
  The array that the idealized kernel leaves: row `R`, lane `j` holds `entry` of the nine features of row `R` and of the
  rows 0 and 1 of the nine tables at lane `j`. The 49 written-back blocks are rows 2048·t and after, and cover the array.
-/
module

public import proofs.«01_k».proof.Proof.IdealRun

@[expose] public section

set_option maxRecDepth 16384

noncomputable section

namespace Cert.ResultArray

open Cert.KernelIdeal Cert.KernelIdeal.Gen Cert.KernelBlock Cert.IdealRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- The result as one function of the features `x` and the nine tables. -/
def resultArray (x : IVec S100000x9 32) (x1 : Vec Ideal S119x128 .f32) (x2 : Vec Ideal S5x128 .f32) (x3 : Vec Ideal S12x128 .f32) (x4 : Vec Ideal S12x128 .f32) (x5 : Vec Ideal S10x128 .f32) (x6 : Vec Ideal S6x128 .f32) (x7 : Vec Ideal S6x128 .f32) (x8 : Vec Ideal S2x128 .f32) (x9 : Vec Ideal S2x128 .f32) : FVec Ideal S100000x128 .f32 :=
  fun i => entry (fun k => x (ix2 (i 0) k)) (lane 0 x1 x2 x3 x4 x5 x6 x7 x8 x9 (i 1)) (lane 1 x1 x2 x3 x4 x5 x6 x7 x8 x9 (i 1))

/-! ## Where the blocks lie -/

set_option maxHeartbeats 1000000 in
/-- Point `t`'s block of the result starts at row block `t`, -/
theorem result_block_row : ∀ t : Fin cfg0.N, win0_10.index t 0 = t.val := by decide +kernel
/-- at lane 0, -/
theorem result_block_lane (t : Fin cfg0.N) : win0_10.index t 1 = 0 := rfl
set_option maxHeartbeats 1000000 in
/-- and has 2048 rows, or those left before row 100000. -/
theorem result_block_rows : ∀ t : Fin cfg0.N, win0_10.xsize (grid0.coords t) 0 = min 2048 (100000 - t.val * 2048) := by
  decide +kernel
theorem result_block_lanes (t : Fin cfg0.N) : win0_10.xsize (grid0.coords t) 1 = 128 := rfl

/-- The feature block of point `t` is of all nine features, and columns from `2048·t`. -/
theorem feature_block_row (t : Fin cfg0.N) : win0_0.index t 0 = 0 := rfl
theorem feature_block_column (t : Fin cfg0.N) : win0_0.index t 1 = t.val := result_block_row t

/-! ## What the input blocks hold -/

/-- Table 1's block is the whole table. -/
theorem table_1 (c : Dev nD) (t : Fin cfg0.N) : iblk m c 1 t = m ((c.tc : Thread nD τ).loc main_arg1) := by
  rw [← V_main_arg1 m c]
  funext y
  show V m c main_arg1 ((win0_1.rect t).emb y) = V m c main_arg1 y
  congr 1; funext a; apply Fin.ext
  exact win0_1.rect_emb_val_of_index_zero t a (by fin_cases a <;> rfl) y
/-- Table 2's block is the whole table. -/
theorem table_2 (c : Dev nD) (t : Fin cfg0.N) : iblk m c 2 t = m ((c.tc : Thread nD τ).loc main_arg2) := by
  rw [← V_main_arg2 m c]
  funext y
  show V m c main_arg2 ((win0_2.rect t).emb y) = V m c main_arg2 y
  congr 1; funext a; apply Fin.ext
  exact win0_2.rect_emb_val_of_index_zero t a (by fin_cases a <;> rfl) y
/-- Table 3's block is the whole table. -/
theorem table_3 (c : Dev nD) (t : Fin cfg0.N) : iblk m c 3 t = m ((c.tc : Thread nD τ).loc main_arg3) := by
  rw [← V_main_arg3 m c]
  funext y
  show V m c main_arg3 ((win0_3.rect t).emb y) = V m c main_arg3 y
  congr 1; funext a; apply Fin.ext
  exact win0_3.rect_emb_val_of_index_zero t a (by fin_cases a <;> rfl) y
/-- Table 4's block is the whole table. -/
theorem table_4 (c : Dev nD) (t : Fin cfg0.N) : iblk m c 4 t = m ((c.tc : Thread nD τ).loc main_arg4) := by
  rw [← V_main_arg4 m c]
  funext y
  show V m c main_arg4 ((win0_4.rect t).emb y) = V m c main_arg4 y
  congr 1; funext a; apply Fin.ext
  exact win0_4.rect_emb_val_of_index_zero t a (by fin_cases a <;> rfl) y
/-- Table 5's block is the whole table. -/
theorem table_5 (c : Dev nD) (t : Fin cfg0.N) : iblk m c 5 t = m ((c.tc : Thread nD τ).loc main_arg5) := by
  rw [← V_main_arg5 m c]
  funext y
  show V m c main_arg5 ((win0_5.rect t).emb y) = V m c main_arg5 y
  congr 1; funext a; apply Fin.ext
  exact win0_5.rect_emb_val_of_index_zero t a (by fin_cases a <;> rfl) y
/-- Table 6's block is the whole table. -/
theorem table_6 (c : Dev nD) (t : Fin cfg0.N) : iblk m c 6 t = m ((c.tc : Thread nD τ).loc main_arg6) := by
  rw [← V_main_arg6 m c]
  funext y
  show V m c main_arg6 ((win0_6.rect t).emb y) = V m c main_arg6 y
  congr 1; funext a; apply Fin.ext
  exact win0_6.rect_emb_val_of_index_zero t a (by fin_cases a <;> rfl) y
/-- Table 7's block is the whole table. -/
theorem table_7 (c : Dev nD) (t : Fin cfg0.N) : iblk m c 7 t = m ((c.tc : Thread nD τ).loc main_arg7) := by
  rw [← V_main_arg7 m c]
  funext y
  show V m c main_arg7 ((win0_7.rect t).emb y) = V m c main_arg7 y
  congr 1; funext a; apply Fin.ext
  exact win0_7.rect_emb_val_of_index_zero t a (by fin_cases a <;> rfl) y
/-- Table 8's block is the whole table. -/
theorem table_8 (c : Dev nD) (t : Fin cfg0.N) : iblk m c 8 t = m ((c.tc : Thread nD τ).loc main_arg8) := by
  rw [← V_main_arg8 m c]
  funext y
  show V m c main_arg8 ((win0_8.rect t).emb y) = V m c main_arg8 y
  congr 1; funext a; apply Fin.ext
  exact win0_8.rect_emb_val_of_index_zero t a (by fin_cases a <;> rfl) y
/-- Table 9's block is the whole table. -/
theorem table_9 (c : Dev nD) (t : Fin cfg0.N) : iblk m c 9 t = m ((c.tc : Thread nD τ).loc main_arg9) := by
  rw [← V_main_arg9 m c]
  funext y
  show V m c main_arg9 ((win0_9.rect t).emb y) = V m c main_arg9 y
  congr 1; funext a; apply Fin.ext
  exact win0_9.rect_emb_val_of_index_zero t a (by fin_cases a <;> rfl) y

/-- The array of features the kernel reads is the transpose of the argument. -/
theorem features_transposed (c : Dev nD) (k : Fin 9) (R : Fin 100000) :
    V m c main_v0 (ix2 k R) = m ((c.tc : Thread nD τ).loc main_arg0) (ix2 R k) := by
  have h : V m c main_v0 = transpose S9x100000 [1, 0] (m ((c.tc : Thread nD τ).loc main_arg0)) transposes_S100000x9_S9x100000_1_0 := by
    show StableHlo.after hostOps0 _ (Proc.devRef .tc main_v0) = _
    after_results
  rw [h]
  exact transpose_apply _ _ _ _ _ fun a => by fin_cases a <;> rfl

/-- A feature that the fetch moves, read in the filled block of point `t`: row `2048·t + r` of the argument. -/
theorem featureBlock_apply (c : Dev nD) (t : Fin cfg0.N) (k : Fin 9) (r : Fin 2048) (R : Fin 100000)
    (h : r.val < win0_10.xsize (grid0.coords t) 0) (hR : R.val = t.val * 2048 + r.val) :
    featureBlock m c t (ix2 k r) = m ((c.tc : Thread nD τ).loc main_arg0) (ix2 R k) := by
  have hm := column_moved (grid0.coords t) k r h
  unfold featureBlock Window.fill
  rw [dif_pos hm, ← features_transposed m c k R]
  show V m c main_v0 ((win0_0.rect t).emb _) = V m c main_v0 (ix2 k R)
  congr 1; funext a; apply Fin.ext
  rw [win0_0.rect_emb_val]
  match a with
  | ⟨0, _⟩ => rw [show win0_0.index t ⟨0, by decide⟩ = 0 from feature_block_row t]; exact (by omega : 0 * 9 + k.val = k.val)
  | ⟨1, _⟩ => rw [show win0_0.index t ⟨1, by decide⟩ = t.val from feature_block_column t]; exact hR.symm

/-! ## What the write-backs leave -/

/-- Point `t` writes back its block of `resultArray`. -/
theorem flushed_block (c : Dev nD) (t : Fin cfg0.N) :
    (dats m 0 c).flushed 10 t = ((cfg0.win 10).blk t).view.read (Elt Ideal) (resultArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  show win0_10.cut (grid0.coords t) ((dats m 0 c).after 10 t) = _
  rw [after_10]
  funext y
  have hy : (win0_10.xinj (grid0.coords t) y 0).val < win0_10.xsize (grid0.coords t) 0 := (y 0).isLt
  show resultBlock m c t (win0_10.xinj (grid0.coords t) y) = resultArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ((win0_10.rect t).emb y)
  have e0 : ((win0_10.rect t).emb y 0 : Nat) = t.val * 2048 + (win0_10.xinj (grid0.coords t) y 0).val := by
    rw [win0_10.rect_emb_val, result_block_row]; rfl
  have e1 : ((win0_10.rect t).emb y 1 : Nat) = (win0_10.xinj (grid0.coords t) y 1).val := by
    rw [win0_10.rect_emb_val, result_block_lane]; exact Nat.zero_mul 128 ▸ Nat.zero_add _
  generalize win0_10.xinj (grid0.coords t) y = z at hy e0 e1
  generalize (win0_10.rect t).emb y = q at e0 e1
  obtain ⟨r, l, rfl⟩ : ∃ (r : Fin 2048) (l : Fin 128), z = ix2 r l := ⟨z 0, z 1, eq_ix2 z⟩
  obtain ⟨R, l', rfl⟩ : ∃ (R : Fin 100000) (l' : Fin 128), q = ix2 R l' := ⟨q 0, q 1, eq_ix2 q⟩
  have hl : l' = l := Fin.ext e1
  subst hl
  unfold resultBlock
  rw [blockOut_apply]
  rw [table_1 m c t, table_2 m c t, table_3 m c t, table_4 m c t, table_5 m c t, table_6 m c t, table_7 m c t, table_8 m c t, table_9 m c t]
  unfold resultArray
  congr 1
  funext k
  exact featureBlock_apply m c t k r R hy e0

/-- An index of the array lies in point `t`'s block iff its row is one of the block's rows inside the array. -/
theorem mem_block (t : Fin cfg0.N) (i : S100000x128.Idx) :
    i ∈ ((cfg0.win 10).blk t).view.set
      ↔ t.val * 2048 ≤ (i 0).val ∧ (i 0).val < t.val * 2048 + min 2048 (100000 - t.val * 2048) := by
  show i ∈ ((View.whole main_v1).slice (win0_10.rect t)).set ↔ _
  rw [View.set_slice_whole, Rect.mem_set_unit, ← result_block_rows, ← result_block_row]
  refine ⟨fun h => h 0, fun h a => ?_⟩
  match a with
  | ⟨0, _⟩ => exact h
  | ⟨1, _⟩ =>
    change win0_10.index t 1 * 128 ≤ (i 1).val ∧ (i 1).val < win0_10.index t 1 * 128 + win0_10.xsize (grid0.coords t) 1
    rw [result_block_lane, result_block_lanes]
    have h1 : (i 1).val < 128 := (i 1).isLt
    omega

/-- The blocks written back cover the array. -/
theorem blocks_cover (i : S100000x128.Idx) :
    ∃ t : Fin cfg0.N, (cfg0.win 10).flush t = true ∧ i ∈ ((cfg0.win 10).blk t).view.set := by
  have h0 : (i 0).val < 100000 := (i 0).isLt
  have hN : cfg0.N = 49 := N_0
  refine ⟨⟨(i 0).val / 2048, by omega⟩, flush0_10 _, (mem_block _ i).2 ?_⟩
  dsimp only
  omega

/-- The kernel's result array ends holding `resultArray` of the arguments. -/
theorem final_array (c : Dev nD) : (dats m 0 c).arrAt 10 cfg0.N = resultArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (dats m 0 c).arrAt_eq_of_cover 10 _ (fun t _ => flushed_block m c t) blocks_cover

/-! ## The run, read at the result and the arguments -/

variable (ρ : Dev nD → PrngReg)

/-- Every execution of the idealized kernel leaves `resultArray` of the arguments in the result, the arguments as they
    were, and every counter at zero. -/
theorem run_value : θ_run defs (onTc (τ := τ) (main (F := Ideal))) ⟨m, fun _ => 0, ρ⟩ (fun r =>
    (∀ c : Dev nD, r.2.mem ((c.tc : Thread nD τ).loc main_v1) = resultArray (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
    ∧ r.2.sem = fun _ => 0) :=
  (θ_run defs _ _).mono (fun _ h => ⟨fun c =>
    ⟨((h.1 c).1 10).trans (final_array m c),
      ((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).1 5).trans (((dats m 0 c).arrAt_in 5 rfl _).trans ((A_eq m c 5).trans (V_main_arg5 m c))),
      ((h.1 c).1 6).trans (((dats m 0 c).arrAt_in 6 rfl _).trans ((A_eq m c 6).trans (V_main_arg6 m c))),
      ((h.1 c).1 7).trans (((dats m 0 c).arrAt_in 7 rfl _).trans ((A_eq m c 7).trans (V_main_arg7 m c))),
      ((h.1 c).1 8).trans (((dats m 0 c).arrAt_in 8 rfl _).trans ((A_eq m c 8).trans (V_main_arg8 m c))),
      ((h.1 c).1 9).trans (((dats m 0 c).arrAt_in 9 rfl _).trans ((A_eq m c 9).trans (V_main_arg9 m c)))⟩, h.2⟩) (run m ρ)

end Cert.ResultArray

end
-- ==== Proof.ReferenceValue.lean ====
/-
  What the reference computes. It adds to zero, table after table, the row that the feature names; a lookup wraps a
  negative row number and replaces a row out of range by a fixed pattern. Where every feature is 0 or 1 neither
  happens, and row `R`, lane `j` of the result is the sum of the nine rows named.
-/
module

public import proofs.«01_k».proof.Proof.Gen.ReferenceIdeal.Run
public import proofs.«01_k».proof.Proof.Gen.ReferenceIdeal.Read
public import Idealize.ShloMosaic.Lib.Pointwise
public import Idealize.ShloMosaic.Lib.Routing.Ops

@[expose] public section

set_option maxRecDepth 16384

noncomputable section

namespace Cert.ReferenceValue

open Cert.ReferenceIdeal Cert.ReferenceIdeal.Gen Cert.ReferenceIdeal.Read
open Idealize.ShloMosaic Idealize.ShloMosaic.TcCoe Idealize.SL.Sem

/-! ## A conjunction over an axis of extent one -/

/-- The conjunction of bits that are all one is one. -/
theorem foldl_and_one {ι : Type} (L : List ι) (x : ι → BitVec 1) (h : ∀ i ∈ L, x i = 1#1) :
    L.foldl (fun r i => IntOp.andi r (x i)) 1#1 = 1#1 := by
  induction L with
  | nil => rfl
  | cons i L ih =>
    rw [List.foldl_cons, h i List.mem_cons_self, show IntOp.andi (1#1) (1#1) = 1#1 from rfl]
    exact ih fun k hk => h k (List.mem_cons_of_mem _ hk)

/-- A reduction by conjunction whose every operand is one, is one. -/
theorem reduce_and_one {s t u : Shape} {axes : List (Fin s.rank)} (x : s.Idx → BitVec 1) (init : u.Idx → BitVec 1)
    (h : s.ReducesTo axes t) (hu : 0 < u.numel) (j : t.Idx) (h1 : init (Shape.Idx.first hu) = 1#1)
    (hx : ∀ i, h.drop i = j → x i = 1#1) : Host.reduce IntOp.andi x init h hu j = 1#1 := by
  rw [Host.reduce_eq_foldl, h1]
  exact foldl_and_one _ _ fun i hi => hx i (of_decide_eq_true (List.mem_filter.1 hi).2)

/-- Of a column, the only entry that row `R` keeps is entry `R`. -/
theorem row_of_drop (i : S100000x1.Idx) (R : Fin 100000)
    (h : reducesTo_S100000x1_S100000_d1.drop i = ix1 R) : i = ix2 R 0 := by
  have h0 : (i 0).val = R.val := congrArg (fun q : S100000.Idx => (q 0).val) h
  have h1 : (i 1).val < 1 := (i 1).isLt
  funext a; apply Fin.ext
  match a with
  | ⟨0, _⟩ => exact h0
  | ⟨1, _⟩ => exact Nat.lt_one_iff.1 h1

/-! ## The nine lookups -/

variable (x : IVec S100000x9 32)

/-! ### Table 0 -/

/-- The row looked up in table 0: feature 0, as it stands. -/
theorem index_0 (R : Fin 100000) (b : Fin 2) (hb : x (ix2 R 0) = BitVec.ofNat 32 b.val) :
    val_main_call0_v5 (F := Ideal) x (ix2 R 0) = BitVec.ofNat 32 b.val := by
  have hc : val_main_v2 (F := Ideal) x (idx_main_call0_v5 (ix2 R 0)) = BitVec.ofNat 32 b.val := by
    rw [val_main_v2_apply, val_main_v1_apply, ← hb]
    congr 1; funext a; apply Fin.ext
    match a with
    | ⟨0, _⟩ => exact Nat.div_one _
    | ⟨1, _⟩ => rfl
  rw [val_main_call0_v5_apply, val_main_call0_v4_apply, val_main_call0_v1_apply, val_main_call0_v3_apply, val_main_call0_v0_apply, val_main_call0_v2_apply, val_main_call0_c_apply, val_main_call0_c_0_apply, hc]
  fin_cases b <;> rfl

/-- The lookup in table 0 is in range. -/
theorem in_range_0 (R : Fin 100000) (b : Fin 2) (hb : x (ix2 R 0) = BitVec.ofNat 32 b.val) :
    val_main_call0_v12 (F := Ideal) x (ix1 R) = 1#1 := by
  refine reduce_and_one _ _ _ _ _ rfl fun i hi => ?_
  obtain rfl := row_of_drop i R hi
  rw [val_main_call0_v11_apply, val_main_call0_v7_apply, val_main_call0_v10_apply, index_0 x R b hb, val_main_call0_v6_apply, val_main_call0_v9_apply, val_main_call0_v8_apply, val_main_call0_c_1_apply, val_main_call0_c_2_apply]
  fin_cases b <;> rfl

/-- What is added for table 0 at row `R`, lane `j`: the table's row that feature 0 names. -/
theorem lookup_0 (T : FVec Ideal S119x128 .f32) (R : Fin 100000) (j : Fin 128) (b : Fin 2)
    (hb : x (ix2 R 0) = BitVec.ofNat 32 b.val) :
    val_main_v3 (F := Ideal) x T (ix2 R j) = T (ix2 ⟨b.val, lt_of_lt_of_le b.isLt (by decide)⟩ j) := by
  have hm : val_main_call0_v14 (F := Ideal) x (ix2 R j) = 1#1 := by
    have hi : idx_main_call0_v14 (ix2 R j) = ix1 R := by
      funext a
      match a with
      | ⟨0, _⟩ => rfl
    rw [val_main_call0_v14_apply, hi, in_range_0 x R b hb]
  rw [val_main_v3_apply, hm]
  exact Routing.gather_row gather_S119x128_S100000x1_S100000x128_1_0_n_n_0_1_1128 rfl rfl rfl rfl rfl T _ R j
    ⟨b.val, lt_of_lt_of_le b.isLt (by decide)⟩ (index_0 x R b hb) (by decide)

/-! ### Table 1 -/

/-- The row looked up in table 1: feature 1, as it stands. -/
theorem index_1 (R : Fin 100000) (b : Fin 2) (hb : x (ix2 R 1) = BitVec.ofNat 32 b.val) :
    val_main_call1_v5 (F := Ideal) x (ix2 R 0) = BitVec.ofNat 32 b.val := by
  have hc : val_main_v6 (F := Ideal) x (idx_main_call1_v5 (ix2 R 0)) = BitVec.ofNat 32 b.val := by
    rw [val_main_v6_apply, val_main_v5_apply, ← hb]
    congr 1; funext a; apply Fin.ext
    match a with
    | ⟨0, _⟩ => exact Nat.div_one _
    | ⟨1, _⟩ => rfl
  rw [val_main_call1_v5_apply, val_main_call1_v4_apply, val_main_call1_v1_apply, val_main_call1_v3_apply, val_main_call1_v0_apply, val_main_call1_v2_apply, val_main_call1_c_apply, val_main_call1_c_0_apply, hc]
  fin_cases b <;> rfl

/-- The lookup in table 1 is in range. -/
theorem in_range_1 (R : Fin 100000) (b : Fin 2) (hb : x (ix2 R 1) = BitVec.ofNat 32 b.val) :
    val_main_call1_v12 (F := Ideal) x (ix1 R) = 1#1 := by
  refine reduce_and_one _ _ _ _ _ rfl fun i hi => ?_
  obtain rfl := row_of_drop i R hi
  rw [val_main_call1_v11_apply, val_main_call1_v7_apply, val_main_call1_v10_apply, index_1 x R b hb, val_main_call1_v6_apply, val_main_call1_v9_apply, val_main_call1_v8_apply, val_main_call1_c_1_apply, val_main_call1_c_2_apply]
  fin_cases b <;> rfl

/-- What is added for table 1 at row `R`, lane `j`: the table's row that feature 1 names. -/
theorem lookup_1 (T : FVec Ideal S5x128 .f32) (R : Fin 100000) (j : Fin 128) (b : Fin 2)
    (hb : x (ix2 R 1) = BitVec.ofNat 32 b.val) :
    val_main_v7 (F := Ideal) x T (ix2 R j) = T (ix2 ⟨b.val, lt_of_lt_of_le b.isLt (by decide)⟩ j) := by
  have hm : val_main_call1_v14 (F := Ideal) x (ix2 R j) = 1#1 := by
    have hi : idx_main_call1_v14 (ix2 R j) = ix1 R := by
      funext a
      match a with
      | ⟨0, _⟩ => rfl
    rw [val_main_call1_v14_apply, hi, in_range_1 x R b hb]
  rw [val_main_v7_apply, hm]
  exact Routing.gather_row gather_S5x128_S100000x1_S100000x128_1_0_n_n_0_1_1128 rfl rfl rfl rfl rfl T _ R j
    ⟨b.val, lt_of_lt_of_le b.isLt (by decide)⟩ (index_1 x R b hb) (by decide)

/-! ### Table 2 -/

/-- The row looked up in table 2: feature 2, as it stands. -/
theorem index_2 (R : Fin 100000) (b : Fin 2) (hb : x (ix2 R 2) = BitVec.ofNat 32 b.val) :
    val_main_call2_v5 (F := Ideal) x (ix2 R 0) = BitVec.ofNat 32 b.val := by
  have hc : val_main_v10 (F := Ideal) x (idx_main_call2_v5 (ix2 R 0)) = BitVec.ofNat 32 b.val := by
    rw [val_main_v10_apply, val_main_v9_apply, ← hb]
    congr 1; funext a; apply Fin.ext
    match a with
    | ⟨0, _⟩ => exact Nat.div_one _
    | ⟨1, _⟩ => rfl
  rw [val_main_call2_v5_apply, val_main_call2_v4_apply, val_main_call2_v1_apply, val_main_call2_v3_apply, val_main_call2_v0_apply, val_main_call2_v2_apply, val_main_call2_c_apply, val_main_call2_c_0_apply, hc]
  fin_cases b <;> rfl

/-- The lookup in table 2 is in range. -/
theorem in_range_2 (R : Fin 100000) (b : Fin 2) (hb : x (ix2 R 2) = BitVec.ofNat 32 b.val) :
    val_main_call2_v12 (F := Ideal) x (ix1 R) = 1#1 := by
  refine reduce_and_one _ _ _ _ _ rfl fun i hi => ?_
  obtain rfl := row_of_drop i R hi
  rw [val_main_call2_v11_apply, val_main_call2_v7_apply, val_main_call2_v10_apply, index_2 x R b hb, val_main_call2_v6_apply, val_main_call2_v9_apply, val_main_call2_v8_apply, val_main_call2_c_1_apply, val_main_call2_c_2_apply]
  fin_cases b <;> rfl

/-- What is added for table 2 at row `R`, lane `j`: the table's row that feature 2 names. -/
theorem lookup_2 (T : FVec Ideal S12x128 .f32) (R : Fin 100000) (j : Fin 128) (b : Fin 2)
    (hb : x (ix2 R 2) = BitVec.ofNat 32 b.val) :
    val_main_v11 (F := Ideal) x T (ix2 R j) = T (ix2 ⟨b.val, lt_of_lt_of_le b.isLt (by decide)⟩ j) := by
  have hm : val_main_call2_v14 (F := Ideal) x (ix2 R j) = 1#1 := by
    have hi : idx_main_call2_v14 (ix2 R j) = ix1 R := by
      funext a
      match a with
      | ⟨0, _⟩ => rfl
    rw [val_main_call2_v14_apply, hi, in_range_2 x R b hb]
  rw [val_main_v11_apply, hm]
  exact Routing.gather_row gather_S12x128_S100000x1_S100000x128_1_0_n_n_0_1_1128 rfl rfl rfl rfl rfl T _ R j
    ⟨b.val, lt_of_lt_of_le b.isLt (by decide)⟩ (index_2 x R b hb) (by decide)

/-! ### Table 3 -/

/-- The row looked up in table 3: feature 3, as it stands. -/
theorem index_3 (R : Fin 100000) (b : Fin 2) (hb : x (ix2 R 3) = BitVec.ofNat 32 b.val) :
    val_main_call3_v5 (F := Ideal) x (ix2 R 0) = BitVec.ofNat 32 b.val := by
  have hc : val_main_v14 (F := Ideal) x (idx_main_call3_v5 (ix2 R 0)) = BitVec.ofNat 32 b.val := by
    rw [val_main_v14_apply, val_main_v13_apply, ← hb]
    congr 1; funext a; apply Fin.ext
    match a with
    | ⟨0, _⟩ => exact Nat.div_one _
    | ⟨1, _⟩ => rfl
  rw [val_main_call3_v5_apply, val_main_call3_v4_apply, val_main_call3_v1_apply, val_main_call3_v3_apply, val_main_call3_v0_apply, val_main_call3_v2_apply, val_main_call3_c_apply, val_main_call3_c_0_apply, hc]
  fin_cases b <;> rfl

/-- The lookup in table 3 is in range. -/
theorem in_range_3 (R : Fin 100000) (b : Fin 2) (hb : x (ix2 R 3) = BitVec.ofNat 32 b.val) :
    val_main_call3_v12 (F := Ideal) x (ix1 R) = 1#1 := by
  refine reduce_and_one _ _ _ _ _ rfl fun i hi => ?_
  obtain rfl := row_of_drop i R hi
  rw [val_main_call3_v11_apply, val_main_call3_v7_apply, val_main_call3_v10_apply, index_3 x R b hb, val_main_call3_v6_apply, val_main_call3_v9_apply, val_main_call3_v8_apply, val_main_call3_c_1_apply, val_main_call3_c_2_apply]
  fin_cases b <;> rfl

/-- What is added for table 3 at row `R`, lane `j`: the table's row that feature 3 names. -/
theorem lookup_3 (T : FVec Ideal S12x128 .f32) (R : Fin 100000) (j : Fin 128) (b : Fin 2)
    (hb : x (ix2 R 3) = BitVec.ofNat 32 b.val) :
    val_main_v15 (F := Ideal) x T (ix2 R j) = T (ix2 ⟨b.val, lt_of_lt_of_le b.isLt (by decide)⟩ j) := by
  have hm : val_main_call3_v14 (F := Ideal) x (ix2 R j) = 1#1 := by
    have hi : idx_main_call3_v14 (ix2 R j) = ix1 R := by
      funext a
      match a with
      | ⟨0, _⟩ => rfl
    rw [val_main_call3_v14_apply, hi, in_range_3 x R b hb]
  rw [val_main_v15_apply, hm]
  exact Routing.gather_row gather_S12x128_S100000x1_S100000x128_1_0_n_n_0_1_1128 rfl rfl rfl rfl rfl T _ R j
    ⟨b.val, lt_of_lt_of_le b.isLt (by decide)⟩ (index_3 x R b hb) (by decide)

/-! ### Table 4 -/

/-- The row looked up in table 4: feature 4, as it stands. -/
theorem index_4 (R : Fin 100000) (b : Fin 2) (hb : x (ix2 R 4) = BitVec.ofNat 32 b.val) :
    val_main_call4_v5 (F := Ideal) x (ix2 R 0) = BitVec.ofNat 32 b.val := by
  have hc : val_main_v18 (F := Ideal) x (idx_main_call4_v5 (ix2 R 0)) = BitVec.ofNat 32 b.val := by
    rw [val_main_v18_apply, val_main_v17_apply, ← hb]
    congr 1; funext a; apply Fin.ext
    match a with
    | ⟨0, _⟩ => exact Nat.div_one _
    | ⟨1, _⟩ => rfl
  rw [val_main_call4_v5_apply, val_main_call4_v4_apply, val_main_call4_v1_apply, val_main_call4_v3_apply, val_main_call4_v0_apply, val_main_call4_v2_apply, val_main_call4_c_apply, val_main_call4_c_0_apply, hc]
  fin_cases b <;> rfl

/-- The lookup in table 4 is in range. -/
theorem in_range_4 (R : Fin 100000) (b : Fin 2) (hb : x (ix2 R 4) = BitVec.ofNat 32 b.val) :
    val_main_call4_v12 (F := Ideal) x (ix1 R) = 1#1 := by
  refine reduce_and_one _ _ _ _ _ rfl fun i hi => ?_
  obtain rfl := row_of_drop i R hi
  rw [val_main_call4_v11_apply, val_main_call4_v7_apply, val_main_call4_v10_apply, index_4 x R b hb, val_main_call4_v6_apply, val_main_call4_v9_apply, val_main_call4_v8_apply, val_main_call4_c_1_apply, val_main_call4_c_2_apply]
  fin_cases b <;> rfl

/-- What is added for table 4 at row `R`, lane `j`: the table's row that feature 4 names. -/
theorem lookup_4 (T : FVec Ideal S10x128 .f32) (R : Fin 100000) (j : Fin 128) (b : Fin 2)
    (hb : x (ix2 R 4) = BitVec.ofNat 32 b.val) :
    val_main_v19 (F := Ideal) x T (ix2 R j) = T (ix2 ⟨b.val, lt_of_lt_of_le b.isLt (by decide)⟩ j) := by
  have hm : val_main_call4_v14 (F := Ideal) x (ix2 R j) = 1#1 := by
    have hi : idx_main_call4_v14 (ix2 R j) = ix1 R := by
      funext a
      match a with
      | ⟨0, _⟩ => rfl
    rw [val_main_call4_v14_apply, hi, in_range_4 x R b hb]
  rw [val_main_v19_apply, hm]
  exact Routing.gather_row gather_S10x128_S100000x1_S100000x128_1_0_n_n_0_1_1128 rfl rfl rfl rfl rfl T _ R j
    ⟨b.val, lt_of_lt_of_le b.isLt (by decide)⟩ (index_4 x R b hb) (by decide)

/-! ### Table 5 -/

/-- The row looked up in table 5: feature 5, as it stands. -/
theorem index_5 (R : Fin 100000) (b : Fin 2) (hb : x (ix2 R 5) = BitVec.ofNat 32 b.val) :
    val_main_call5_v5 (F := Ideal) x (ix2 R 0) = BitVec.ofNat 32 b.val := by
  have hc : val_main_v22 (F := Ideal) x (idx_main_call5_v5 (ix2 R 0)) = BitVec.ofNat 32 b.val := by
    rw [val_main_v22_apply, val_main_v21_apply, ← hb]
    congr 1; funext a; apply Fin.ext
    match a with
    | ⟨0, _⟩ => exact Nat.div_one _
    | ⟨1, _⟩ => rfl
  rw [val_main_call5_v5_apply, val_main_call5_v4_apply, val_main_call5_v1_apply, val_main_call5_v3_apply, val_main_call5_v0_apply, val_main_call5_v2_apply, val_main_call5_c_apply, val_main_call5_c_0_apply, hc]
  fin_cases b <;> rfl

/-- The lookup in table 5 is in range. -/
theorem in_range_5 (R : Fin 100000) (b : Fin 2) (hb : x (ix2 R 5) = BitVec.ofNat 32 b.val) :
    val_main_call5_v12 (F := Ideal) x (ix1 R) = 1#1 := by
  refine reduce_and_one _ _ _ _ _ rfl fun i hi => ?_
  obtain rfl := row_of_drop i R hi
  rw [val_main_call5_v11_apply, val_main_call5_v7_apply, val_main_call5_v10_apply, index_5 x R b hb, val_main_call5_v6_apply, val_main_call5_v9_apply, val_main_call5_v8_apply, val_main_call5_c_1_apply, val_main_call5_c_2_apply]
  fin_cases b <;> rfl

/-- What is added for table 5 at row `R`, lane `j`: the table's row that feature 5 names. -/
theorem lookup_5 (T : FVec Ideal S6x128 .f32) (R : Fin 100000) (j : Fin 128) (b : Fin 2)
    (hb : x (ix2 R 5) = BitVec.ofNat 32 b.val) :
    val_main_v23 (F := Ideal) x T (ix2 R j) = T (ix2 ⟨b.val, lt_of_lt_of_le b.isLt (by decide)⟩ j) := by
  have hm : val_main_call5_v14 (F := Ideal) x (ix2 R j) = 1#1 := by
    have hi : idx_main_call5_v14 (ix2 R j) = ix1 R := by
      funext a
      match a with
      | ⟨0, _⟩ => rfl
    rw [val_main_call5_v14_apply, hi, in_range_5 x R b hb]
  rw [val_main_v23_apply, hm]
  exact Routing.gather_row gather_S6x128_S100000x1_S100000x128_1_0_n_n_0_1_1128 rfl rfl rfl rfl rfl T _ R j
    ⟨b.val, lt_of_lt_of_le b.isLt (by decide)⟩ (index_5 x R b hb) (by decide)

/-! ### Table 6 -/

/-- The row looked up in table 6: feature 6, as it stands. -/
theorem index_6 (R : Fin 100000) (b : Fin 2) (hb : x (ix2 R 6) = BitVec.ofNat 32 b.val) :
    val_main_call6_v5 (F := Ideal) x (ix2 R 0) = BitVec.ofNat 32 b.val := by
  have hc : val_main_v26 (F := Ideal) x (idx_main_call6_v5 (ix2 R 0)) = BitVec.ofNat 32 b.val := by
    rw [val_main_v26_apply, val_main_v25_apply, ← hb]
    congr 1; funext a; apply Fin.ext
    match a with
    | ⟨0, _⟩ => exact Nat.div_one _
    | ⟨1, _⟩ => rfl
  rw [val_main_call6_v5_apply, val_main_call6_v4_apply, val_main_call6_v1_apply, val_main_call6_v3_apply, val_main_call6_v0_apply, val_main_call6_v2_apply, val_main_call6_c_apply, val_main_call6_c_0_apply, hc]
  fin_cases b <;> rfl

/-- The lookup in table 6 is in range. -/
theorem in_range_6 (R : Fin 100000) (b : Fin 2) (hb : x (ix2 R 6) = BitVec.ofNat 32 b.val) :
    val_main_call6_v12 (F := Ideal) x (ix1 R) = 1#1 := by
  refine reduce_and_one _ _ _ _ _ rfl fun i hi => ?_
  obtain rfl := row_of_drop i R hi
  rw [val_main_call6_v11_apply, val_main_call6_v7_apply, val_main_call6_v10_apply, index_6 x R b hb, val_main_call6_v6_apply, val_main_call6_v9_apply, val_main_call6_v8_apply, val_main_call6_c_1_apply, val_main_call6_c_2_apply]
  fin_cases b <;> rfl

/-- What is added for table 6 at row `R`, lane `j`: the table's row that feature 6 names. -/
theorem lookup_6 (T : FVec Ideal S6x128 .f32) (R : Fin 100000) (j : Fin 128) (b : Fin 2)
    (hb : x (ix2 R 6) = BitVec.ofNat 32 b.val) :
    val_main_v27 (F := Ideal) x T (ix2 R j) = T (ix2 ⟨b.val, lt_of_lt_of_le b.isLt (by decide)⟩ j) := by
  have hm : val_main_call6_v14 (F := Ideal) x (ix2 R j) = 1#1 := by
    have hi : idx_main_call6_v14 (ix2 R j) = ix1 R := by
      funext a
      match a with
      | ⟨0, _⟩ => rfl
    rw [val_main_call6_v14_apply, hi, in_range_6 x R b hb]
  rw [val_main_v27_apply, hm]
  exact Routing.gather_row gather_S6x128_S100000x1_S100000x128_1_0_n_n_0_1_1128 rfl rfl rfl rfl rfl T _ R j
    ⟨b.val, lt_of_lt_of_le b.isLt (by decide)⟩ (index_6 x R b hb) (by decide)

/-! ### Table 7 -/

/-- The row looked up in table 7: feature 7, as it stands. -/
theorem index_7 (R : Fin 100000) (b : Fin 2) (hb : x (ix2 R 7) = BitVec.ofNat 32 b.val) :
    val_main_call7_v5 (F := Ideal) x (ix2 R 0) = BitVec.ofNat 32 b.val := by
  have hc : val_main_v30 (F := Ideal) x (idx_main_call7_v5 (ix2 R 0)) = BitVec.ofNat 32 b.val := by
    rw [val_main_v30_apply, val_main_v29_apply, ← hb]
    congr 1; funext a; apply Fin.ext
    match a with
    | ⟨0, _⟩ => exact Nat.div_one _
    | ⟨1, _⟩ => rfl
  rw [val_main_call7_v5_apply, val_main_call7_v4_apply, val_main_call7_v1_apply, val_main_call7_v3_apply, val_main_call7_v0_apply, val_main_call7_v2_apply, val_main_call7_c_apply, val_main_call7_c_0_apply, hc]
  fin_cases b <;> rfl

/-- The lookup in table 7 is in range. -/
theorem in_range_7 (R : Fin 100000) (b : Fin 2) (hb : x (ix2 R 7) = BitVec.ofNat 32 b.val) :
    val_main_call7_v12 (F := Ideal) x (ix1 R) = 1#1 := by
  refine reduce_and_one _ _ _ _ _ rfl fun i hi => ?_
  obtain rfl := row_of_drop i R hi
  rw [val_main_call7_v11_apply, val_main_call7_v7_apply, val_main_call7_v10_apply, index_7 x R b hb, val_main_call7_v6_apply, val_main_call7_v9_apply, val_main_call7_v8_apply, val_main_call7_c_1_apply, val_main_call7_c_2_apply]
  fin_cases b <;> rfl

/-- What is added for table 7 at row `R`, lane `j`: the table's row that feature 7 names. -/
theorem lookup_7 (T : FVec Ideal S2x128 .f32) (R : Fin 100000) (j : Fin 128) (b : Fin 2)
    (hb : x (ix2 R 7) = BitVec.ofNat 32 b.val) :
    val_main_v31 (F := Ideal) x T (ix2 R j) = T (ix2 ⟨b.val, lt_of_lt_of_le b.isLt (by decide)⟩ j) := by
  have hm : val_main_call7_v14 (F := Ideal) x (ix2 R j) = 1#1 := by
    have hi : idx_main_call7_v14 (ix2 R j) = ix1 R := by
      funext a
      match a with
      | ⟨0, _⟩ => rfl
    rw [val_main_call7_v14_apply, hi, in_range_7 x R b hb]
  rw [val_main_v31_apply, hm]
  exact Routing.gather_row gather_S2x128_S100000x1_S100000x128_1_0_n_n_0_1_1128 rfl rfl rfl rfl rfl T _ R j
    ⟨b.val, lt_of_lt_of_le b.isLt (by decide)⟩ (index_7 x R b hb) (by decide)

/-! ### Table 8 -/

/-- The row looked up in table 8: feature 8, as it stands. -/
theorem index_8 (R : Fin 100000) (b : Fin 2) (hb : x (ix2 R 8) = BitVec.ofNat 32 b.val) :
    val_main_call8_v5 (F := Ideal) x (ix2 R 0) = BitVec.ofNat 32 b.val := by
  have hc : val_main_v34 (F := Ideal) x (idx_main_call8_v5 (ix2 R 0)) = BitVec.ofNat 32 b.val := by
    rw [val_main_v34_apply, val_main_v33_apply, ← hb]
    congr 1; funext a; apply Fin.ext
    match a with
    | ⟨0, _⟩ => exact Nat.div_one _
    | ⟨1, _⟩ => rfl
  rw [val_main_call8_v5_apply, val_main_call8_v4_apply, val_main_call8_v1_apply, val_main_call8_v3_apply, val_main_call8_v0_apply, val_main_call8_v2_apply, val_main_call8_c_apply, val_main_call8_c_0_apply, hc]
  fin_cases b <;> rfl

/-- The lookup in table 8 is in range. -/
theorem in_range_8 (R : Fin 100000) (b : Fin 2) (hb : x (ix2 R 8) = BitVec.ofNat 32 b.val) :
    val_main_call8_v12 (F := Ideal) x (ix1 R) = 1#1 := by
  refine reduce_and_one _ _ _ _ _ rfl fun i hi => ?_
  obtain rfl := row_of_drop i R hi
  rw [val_main_call8_v11_apply, val_main_call8_v7_apply, val_main_call8_v10_apply, index_8 x R b hb, val_main_call8_v6_apply, val_main_call8_v9_apply, val_main_call8_v8_apply, val_main_call8_c_1_apply, val_main_call8_c_2_apply]
  fin_cases b <;> rfl

/-- What is added for table 8 at row `R`, lane `j`: the table's row that feature 8 names. -/
theorem lookup_8 (T : FVec Ideal S2x128 .f32) (R : Fin 100000) (j : Fin 128) (b : Fin 2)
    (hb : x (ix2 R 8) = BitVec.ofNat 32 b.val) :
    val_main_v35 (F := Ideal) x T (ix2 R j) = T (ix2 ⟨b.val, lt_of_lt_of_le b.isLt (by decide)⟩ j) := by
  have hm : val_main_call8_v14 (F := Ideal) x (ix2 R j) = 1#1 := by
    have hi : idx_main_call8_v14 (ix2 R j) = ix1 R := by
      funext a
      match a with
      | ⟨0, _⟩ => rfl
    rw [val_main_call8_v14_apply, hi, in_range_8 x R b hb]
  rw [val_main_v35_apply, hm]
  exact Routing.gather_row gather_S2x128_S100000x1_S100000x128_1_0_n_n_0_1_1128 rfl rfl rfl rfl rfl T _ R j
    ⟨b.val, lt_of_lt_of_le b.isLt (by decide)⟩ (index_8 x R b hb) (by decide)

/-! ## The sum -/

/-- Row `R`, lane `j` of the reference's result, where `b k` is feature `k` of row `R`. -/
theorem sum_apply (x1 : FVec Ideal S119x128 .f32) (x2 : FVec Ideal S5x128 .f32) (x3 : FVec Ideal S12x128 .f32) (x4 : FVec Ideal S12x128 .f32) (x5 : FVec Ideal S10x128 .f32) (x6 : FVec Ideal S6x128 .f32) (x7 : FVec Ideal S6x128 .f32) (x8 : FVec Ideal S2x128 .f32) (x9 : FVec Ideal S2x128 .f32) (R : Fin 100000) (j : Fin 128) (b : Fin 9 → Fin 2)
    (hb : ∀ k, x (ix2 R k) = BitVec.ofNat 32 (b k).val) :
    val_main_v36 (F := Ideal) x x1 x2 x3 x4 x5 x6 x7 x8 x9 (ix2 R j)
      = (0 : EReal)
        + x1 (ix2 ⟨(b 0).val, lt_of_lt_of_le (b 0).isLt (by decide)⟩ j)
        + x2 (ix2 ⟨(b 1).val, lt_of_lt_of_le (b 1).isLt (by decide)⟩ j)
        + x3 (ix2 ⟨(b 2).val, lt_of_lt_of_le (b 2).isLt (by decide)⟩ j)
        + x4 (ix2 ⟨(b 3).val, lt_of_lt_of_le (b 3).isLt (by decide)⟩ j)
        + x5 (ix2 ⟨(b 4).val, lt_of_lt_of_le (b 4).isLt (by decide)⟩ j)
        + x6 (ix2 ⟨(b 5).val, lt_of_lt_of_le (b 5).isLt (by decide)⟩ j)
        + x7 (ix2 ⟨(b 6).val, lt_of_lt_of_le (b 6).isLt (by decide)⟩ j)
        + x8 (ix2 ⟨(b 7).val, lt_of_lt_of_le (b 7).isLt (by decide)⟩ j)
        + x9 (ix2 ⟨(b 8).val, lt_of_lt_of_le (b 8).isLt (by decide)⟩ j) := by
  rw [val_main_v36_apply, val_main_v32_apply, val_main_v28_apply, val_main_v24_apply, val_main_v20_apply, val_main_v16_apply, val_main_v12_apply, val_main_v8_apply, val_main_v4_apply, lookup_0 x x1 R j (b 0) (hb 0), lookup_1 x x2 R j (b 1) (hb 1), lookup_2 x x3 R j (b 2) (hb 2), lookup_3 x x4 R j (b 3) (hb 3), lookup_4 x x5 R j (b 4) (hb 4), lookup_5 x x6 R j (b 5) (hb 5), lookup_6 x x7 R j (b 6) (hb 6), lookup_7 x x8 R j (b 7) (hb 7), lookup_8 x x9 R j (b 8) (hb 8), val_main_v0_apply, val_main_cst_apply]
  simp only [Ideal.addf_def]
  rw [show FloatOps.ofBits (F := Ideal) FTy.f32 0x00000000#32 = (0 : EReal) from Ideal.ofBits_zero_f32]

end Cert.ReferenceValue

end
-- ==== Proof.ReferenceRun.lean ====
/-
  The run of the reference: it ends with its result at the sum of the nine lookups, its arguments unchanged and its
  counters at zero (it declares none).
-/
module

public import proofs.«01_k».proof.Proof.ReferenceValue
public import Idealize.ShloMosaic.Lib.Quiescent

@[expose] public section

set_option maxRecDepth 16384

noncomputable section

namespace Cert.ReferenceRun

open Cert.ReferenceIdeal Cert.ReferenceIdeal.Gen Cert.ReferenceIdeal.Read
open Idealize.ShloMosaic Idealize.ShloMosaic.TcCoe Idealize.ShloMosaic.StableHlo Idealize.SL.Sem

/-- The reference's result is its last sum over the arguments; the arguments end as they began. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36)
        = val_main_v36 (F := Ideal) (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun _ h c => ⟨(h c).1.trans (val_main_v36_eq (launchContents m c)), (h c).2⟩)
    (Cert.ReferenceIdeal.Value.run m ρ)

/-- The reference terminates, leaves its arguments unchanged, and ends with every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run _ _ _).mono (fun r h => ⟨fun c => (h c).2, sem_eq_zero_of_no_sems rfl r.2⟩)
    (Cert.ReferenceIdeal.Value.run m ρ)

end Cert.ReferenceRun

end
-- ==== Proof.Precondition.lean ====
/-
  What the precondition says of the arguments: every feature is 0 or 1, and the rows 0 and 1 of every table are
  finite. Each of the precondition's ten results is an array of comparison bits; here each is read at one entry.
-/
module

public import proofs.«01_k».proof.Proof.Gen.Pre_binary_features
public import proofs.«01_k».proof.Proof.BlockValue
public import Idealize.ShloMosaic.Lib.Pointwise

@[expose] public section

set_option maxRecDepth 16384

noncomputable section

namespace Cert.Precondition

open Cert.Pre_binary_features Cert.Pre_binary_features.Gen Idealize.ShloMosaic

/-! ## One comparison -/

/-- A word at least 0 and at most 1, as a signed number, is 0 or 1. -/
theorem bit_of_range (w : BitVec 32)
    (h : IntOp.andi (IntOp.cmpi .sge w 0#32) (IntOp.cmpi .sle w 1#32) = 1#1) :
    ∃ b : Fin 2, w = BitVec.ofNat 32 b.val := by
  have hb : (0#32).sle w = true ∧ w.sle 1#32 = true := by
    revert h
    show BitVec.ofBool ((0#32).sle w) &&& BitVec.ofBool (w.sle 1#32) = 1#1 → _
    cases (0#32).sle w <;> cases w.sle 1#32 <;> simp
  obtain ⟨h0, h1⟩ := hb
  rw [BitVec.sle_iff_toInt_le] at h0 h1
  have e0 : (0#32).toInt = 0 := by decide
  have e1 : (1#32).toInt = 1 := by decide
  rw [e0] at h0
  rw [e1] at h1
  rcases (show w.toInt = 0 ∨ w.toInt = 1 by omega) with h | h
  · exact ⟨0, BitVec.eq_of_toInt_eq (h.trans e0.symm)⟩
  · exact ⟨1, BitVec.eq_of_toInt_eq (h.trans e1.symm)⟩

/-- The pattern of positive infinity denotes the greatest extended real. -/
theorem infinity : FloatOps.ofBits (F := Ideal) FTy.f32 0x7F800000#32 = (⊤ : EReal) := by
  simp [Ideal.ofBits, Ideal.ieee]

/-- A number whose absolute value is below infinity is neither of the two infinities. -/
theorem finite_of_abs (a : EReal)
    (h : FloatOps.cmpf (F := Ideal) (φ := .f32) .olt (FloatOps.hostAbsf (F := Ideal) (φ := .f32) a)
      (FloatOps.ofBits (F := Ideal) FTy.f32 0x7F800000#32) = 1#1) : a ≠ ⊤ ∧ a ≠ ⊥ := by
  rw [infinity] at h
  have hlt : max a (-a) < ⊤ := by
    by_contra hn
    have : (0#1 : BitVec 1) = 1#1 := by
      rw [← h]
      show (0#1 : BitVec 1) = BitVec.ofBool (decide (max a (-a) < ⊤))
      rw [decide_eq_false hn]
      rfl
    exact absurd this (by decide)
  constructor
  · rintro rfl
    simp at hlt
  · rintro rfl
    simp at hlt

/-! ## The ten results -/

variable (x : IVec S100000x9 32) (x1 : FVec Ideal S119x128 .f32) (x2 : FVec Ideal S5x128 .f32) (x3 : FVec Ideal S12x128 .f32) (x4 : FVec Ideal S12x128 .f32) (x5 : FVec Ideal S10x128 .f32) (x6 : FVec Ideal S6x128 .f32) (x7 : FVec Ideal S6x128 .f32) (x8 : FVec Ideal S2x128 .f32) (x9 : FVec Ideal S2x128 .f32)

/-- The precondition's first result: every feature is 0 or 1. -/
theorem feature_bit (h : (fn (F := Ideal) x x1 x2 x3 x4 x5 x6 x7 x8 x9).1 = fun _ => 1#1) (R : Fin 100000) (k : Fin 9) :
    ∃ b : Fin 2, x (ix2 R k) = BitVec.ofNat 32 b.val :=
  bit_of_range _ (congrFun h (ix2 R k))

/-- Result 2: the rows 0 and 1 of table 0 are finite. -/
theorem finite_0 (h : (fn (F := Ideal) x x1 x2 x3 x4 x5 x6 x7 x8 x9).2.1 = fun _ => 1#1) (i : Fin 2) (j : Fin 128) :
    x1 (ix2 ⟨i.val, lt_of_lt_of_le i.isLt (by decide)⟩ j) ≠ ⊤
      ∧ x1 (ix2 ⟨i.val, lt_of_lt_of_le i.isLt (by decide)⟩ j) ≠ ⊥ := by
  have e : extractStridedSlice S2x128 ![0, 0] x1 slices_S119x128_S2x128_0_0 (ix2 i j)
      = x1 (ix2 ⟨i.val, lt_of_lt_of_le i.isLt (by decide)⟩ j) := by
    pointwise
  rw [← e]
  exact finite_of_abs _ (congrFun h (ix2 i j))

/-- Result 3: the rows 0 and 1 of table 1 are finite. -/
theorem finite_1 (h : (fn (F := Ideal) x x1 x2 x3 x4 x5 x6 x7 x8 x9).2.2.1 = fun _ => 1#1) (i : Fin 2) (j : Fin 128) :
    x2 (ix2 ⟨i.val, lt_of_lt_of_le i.isLt (by decide)⟩ j) ≠ ⊤
      ∧ x2 (ix2 ⟨i.val, lt_of_lt_of_le i.isLt (by decide)⟩ j) ≠ ⊥ := by
  have e : extractStridedSlice S2x128 ![0, 0] x2 slices_S5x128_S2x128_0_0 (ix2 i j)
      = x2 (ix2 ⟨i.val, lt_of_lt_of_le i.isLt (by decide)⟩ j) := by
    pointwise
  rw [← e]
  exact finite_of_abs _ (congrFun h (ix2 i j))

/-- Result 4: the rows 0 and 1 of table 2 are finite. -/
theorem finite_2 (h : (fn (F := Ideal) x x1 x2 x3 x4 x5 x6 x7 x8 x9).2.2.2.1 = fun _ => 1#1) (i : Fin 2) (j : Fin 128) :
    x3 (ix2 ⟨i.val, lt_of_lt_of_le i.isLt (by decide)⟩ j) ≠ ⊤
      ∧ x3 (ix2 ⟨i.val, lt_of_lt_of_le i.isLt (by decide)⟩ j) ≠ ⊥ := by
  have e : extractStridedSlice S2x128 ![0, 0] x3 slices_S12x128_S2x128_0_0 (ix2 i j)
      = x3 (ix2 ⟨i.val, lt_of_lt_of_le i.isLt (by decide)⟩ j) := by
    pointwise
  rw [← e]
  exact finite_of_abs _ (congrFun h (ix2 i j))

/-- Result 5: the rows 0 and 1 of table 3 are finite. -/
theorem finite_3 (h : (fn (F := Ideal) x x1 x2 x3 x4 x5 x6 x7 x8 x9).2.2.2.2.1 = fun _ => 1#1) (i : Fin 2) (j : Fin 128) :
    x4 (ix2 ⟨i.val, lt_of_lt_of_le i.isLt (by decide)⟩ j) ≠ ⊤
      ∧ x4 (ix2 ⟨i.val, lt_of_lt_of_le i.isLt (by decide)⟩ j) ≠ ⊥ := by
  have e : extractStridedSlice S2x128 ![0, 0] x4 slices_S12x128_S2x128_0_0 (ix2 i j)
      = x4 (ix2 ⟨i.val, lt_of_lt_of_le i.isLt (by decide)⟩ j) := by
    pointwise
  rw [← e]
  exact finite_of_abs _ (congrFun h (ix2 i j))

/-- Result 6: the rows 0 and 1 of table 4 are finite. -/
theorem finite_4 (h : (fn (F := Ideal) x x1 x2 x3 x4 x5 x6 x7 x8 x9).2.2.2.2.2.1 = fun _ => 1#1) (i : Fin 2) (j : Fin 128) :
    x5 (ix2 ⟨i.val, lt_of_lt_of_le i.isLt (by decide)⟩ j) ≠ ⊤
      ∧ x5 (ix2 ⟨i.val, lt_of_lt_of_le i.isLt (by decide)⟩ j) ≠ ⊥ := by
  have e : extractStridedSlice S2x128 ![0, 0] x5 slices_S10x128_S2x128_0_0 (ix2 i j)
      = x5 (ix2 ⟨i.val, lt_of_lt_of_le i.isLt (by decide)⟩ j) := by
    pointwise
  rw [← e]
  exact finite_of_abs _ (congrFun h (ix2 i j))

/-- Result 7: the rows 0 and 1 of table 5 are finite. -/
theorem finite_5 (h : (fn (F := Ideal) x x1 x2 x3 x4 x5 x6 x7 x8 x9).2.2.2.2.2.2.1 = fun _ => 1#1) (i : Fin 2) (j : Fin 128) :
    x6 (ix2 ⟨i.val, lt_of_lt_of_le i.isLt (by decide)⟩ j) ≠ ⊤
      ∧ x6 (ix2 ⟨i.val, lt_of_lt_of_le i.isLt (by decide)⟩ j) ≠ ⊥ := by
  have e : extractStridedSlice S2x128 ![0, 0] x6 slices_S6x128_S2x128_0_0 (ix2 i j)
      = x6 (ix2 ⟨i.val, lt_of_lt_of_le i.isLt (by decide)⟩ j) := by
    pointwise
  rw [← e]
  exact finite_of_abs _ (congrFun h (ix2 i j))

/-- Result 8: the rows 0 and 1 of table 6 are finite. -/
theorem finite_6 (h : (fn (F := Ideal) x x1 x2 x3 x4 x5 x6 x7 x8 x9).2.2.2.2.2.2.2.1 = fun _ => 1#1) (i : Fin 2) (j : Fin 128) :
    x7 (ix2 ⟨i.val, lt_of_lt_of_le i.isLt (by decide)⟩ j) ≠ ⊤
      ∧ x7 (ix2 ⟨i.val, lt_of_lt_of_le i.isLt (by decide)⟩ j) ≠ ⊥ := by
  have e : extractStridedSlice S2x128 ![0, 0] x7 slices_S6x128_S2x128_0_0 (ix2 i j)
      = x7 (ix2 ⟨i.val, lt_of_lt_of_le i.isLt (by decide)⟩ j) := by
    pointwise
  rw [← e]
  exact finite_of_abs _ (congrFun h (ix2 i j))

/-- Result 9: the rows 0 and 1 of table 7 are finite. -/
theorem finite_7 (h : (fn (F := Ideal) x x1 x2 x3 x4 x5 x6 x7 x8 x9).2.2.2.2.2.2.2.2.1 = fun _ => 1#1) (i : Fin 2) (j : Fin 128) :
    x8 (ix2 ⟨i.val, lt_of_lt_of_le i.isLt (by decide)⟩ j) ≠ ⊤
      ∧ x8 (ix2 ⟨i.val, lt_of_lt_of_le i.isLt (by decide)⟩ j) ≠ ⊥ := by
  exact finite_of_abs _ (congrFun h (ix2 i j))

/-- Result 10: the rows 0 and 1 of table 8 are finite. -/
theorem finite_8 (h : (fn (F := Ideal) x x1 x2 x3 x4 x5 x6 x7 x8 x9).2.2.2.2.2.2.2.2.2 = fun _ => 1#1) (i : Fin 2) (j : Fin 128) :
    x9 (ix2 ⟨i.val, lt_of_lt_of_le i.isLt (by decide)⟩ j) ≠ ⊤
      ∧ x9 (ix2 ⟨i.val, lt_of_lt_of_le i.isLt (by decide)⟩ j) ≠ ⊥ := by
  exact finite_of_abs _ (congrFun h (ix2 i j))

/-- The rows 0 and 1 of all nine tables are finite. -/
theorem lane_finite (h0 : (fn (F := Ideal) x x1 x2 x3 x4 x5 x6 x7 x8 x9).2.1 = fun _ => 1#1)
    (h1 : (fn (F := Ideal) x x1 x2 x3 x4 x5 x6 x7 x8 x9).2.2.1 = fun _ => 1#1)
    (h2 : (fn (F := Ideal) x x1 x2 x3 x4 x5 x6 x7 x8 x9).2.2.2.1 = fun _ => 1#1)
    (h3 : (fn (F := Ideal) x x1 x2 x3 x4 x5 x6 x7 x8 x9).2.2.2.2.1 = fun _ => 1#1)
    (h4 : (fn (F := Ideal) x x1 x2 x3 x4 x5 x6 x7 x8 x9).2.2.2.2.2.1 = fun _ => 1#1)
    (h5 : (fn (F := Ideal) x x1 x2 x3 x4 x5 x6 x7 x8 x9).2.2.2.2.2.2.1 = fun _ => 1#1)
    (h6 : (fn (F := Ideal) x x1 x2 x3 x4 x5 x6 x7 x8 x9).2.2.2.2.2.2.2.1 = fun _ => 1#1)
    (h7 : (fn (F := Ideal) x x1 x2 x3 x4 x5 x6 x7 x8 x9).2.2.2.2.2.2.2.2.1 = fun _ => 1#1)
    (h8 : (fn (F := Ideal) x x1 x2 x3 x4 x5 x6 x7 x8 x9).2.2.2.2.2.2.2.2.2 = fun _ => 1#1)
    (i : Fin 2) (j : Fin 128) (k : Fin 9) :
    Cert.KernelBlock.lane i x1 x2 x3 x4 x5 x6 x7 x8 x9 j k ≠ ⊤ ∧ Cert.KernelBlock.lane i x1 x2 x3 x4 x5 x6 x7 x8 x9 j k ≠ ⊥ :=
  match k with
  | 0 => finite_0 x x1 x2 x3 x4 x5 x6 x7 x8 x9 h0 i j
  | 1 => finite_1 x x1 x2 x3 x4 x5 x6 x7 x8 x9 h1 i j
  | 2 => finite_2 x x1 x2 x3 x4 x5 x6 x7 x8 x9 h2 i j
  | 3 => finite_3 x x1 x2 x3 x4 x5 x6 x7 x8 x9 h3 i j
  | 4 => finite_4 x x1 x2 x3 x4 x5 x6 x7 x8 x9 h4 i j
  | 5 => finite_5 x x1 x2 x3 x4 x5 x6 x7 x8 x9 h5 i j
  | 6 => finite_6 x x1 x2 x3 x4 x5 x6 x7 x8 x9 h6 i j
  | 7 => finite_7 x x1 x2 x3 x4 x5 x6 x7 x8 x9 h7 i j
  | 8 => finite_8 x x1 x2 x3 x4 x5 x6 x7 x8 x9 h8 i j

end Cert.Precondition

end
-- ==== Proof.Equation.lean ====
/-
  The equation of one entry. Where every feature is 0 or 1 and the two rows are finite, the kernel's interpolation
  between the rows 0 and 1 is the reference's sum of the rows named.
-/
module

public import proofs.«01_k».proof.Proof.BlockValue

@[expose] public section

set_option maxRecDepth 16384

noncomputable section

namespace Cert.Equation

open Idealize.ShloMosaic Cert.KernelBlock

/-- A feature that is 0 or 1, read as a number, is its row number. -/
theorem toInt_bit (b : Fin 2) : (((BitVec.ofNat 32 b.val).toInt : ℝ) : EReal) = (((b.val : ℝ)) : EReal) := by
  fin_cases b <;> simp

/-- Going from row 0 towards row 1 by the row number arrives at the row. -/
theorem interpolate (r : Fin 2 → ℝ) (b : Fin 2) : r b = r 0 + (b.val : ℝ) * (r 1 - r 0) := by
  fin_cases b <;> simp

/-- The sum of nine real numbers, taken among the extended reals, is the real sum. -/
theorem leftSum_coe (v : Fin 9 → ℝ) :
    leftSum (fun k => ((v k : ℝ) : EReal)) = ((∑ k, v k : ℝ) : EReal) := by
  unfold leftSum
  simp only [← EReal.coe_add]
  congr 1
  simp only [Fin.sum_univ_succ, Finset.univ_eq_empty, Finset.sum_empty]
  show v 0 + v 1 + v 2 + v 3 + v 4 + v 5 + v 6 + v 7 + v 8
    = v 0 + (v 1 + (v 2 + (v 3 + (v 4 + (v 5 + (v 6 + (v 7 + (v 8 + 0))))))))
  ring

/-- A finite sum of real numbers, taken among the extended reals, is the real sum. -/
theorem sum_coe (v : Fin 9 → ℝ) : (∑ k, ((v k : ℝ) : EReal)) = ((∑ k, v k : ℝ) : EReal) := by
  simp only [Fin.sum_univ_succ, Finset.univ_eq_empty, Finset.sum_empty, EReal.coe_add, EReal.coe_zero]

/-- The kernel's entry over real rows: the sum of row 0 plus the differences of the features that are 1. -/
theorem entry_real (r : Fin 2 → Fin 9 → ℝ) (b : Fin 9 → Fin 2) :
    entry (fun k => BitVec.ofNat 32 (b k).val) (fun k => ((r 0 k : ℝ) : EReal)) (fun k => ((r 1 k : ℝ) : EReal))
      = ((∑ k, r (b k) k : ℝ) : EReal) := by
  unfold entry
  simp only [toInt_bit, ← EReal.coe_sub, ← EReal.coe_mul, leftSum_coe, sum_coe, ← EReal.coe_add]
  congr 1
  rw [show (∑ k, r (b k) k) = ∑ k, (r 0 k + ((b k).val : ℝ) * (r 1 k - r 0 k)) from
    Finset.sum_congr rfl fun k _ => interpolate (fun i => r i k) (b k), Finset.sum_add_distrib]
  simp only [sub_self, mul_zero, Finset.sum_const_zero, add_zero, zero_add]
  exact add_comm _ _

/-- The kernel's entry is the reference's: over finite rows, the sum from zero of the nine entries named. -/
theorem entry_eq (L : Fin 2 → Fin 9 → EReal) (hL : ∀ i k, L i k ≠ ⊤ ∧ L i k ≠ ⊥) (b : Fin 9 → Fin 2) :
    entry (fun k => BitVec.ofNat 32 (b k).val) (L 0) (L 1)
      = (0 : EReal) + L (b 0) 0 + L (b 1) 1 + L (b 2) 2 + L (b 3) 3 + L (b 4) 4 + L (b 5) 5 + L (b 6) 6 + L (b 7) 7 + L (b 8) 8 := by
  obtain ⟨r, rfl⟩ : ∃ r : Fin 2 → Fin 9 → ℝ, L = fun i k => ((r i k : ℝ) : EReal) :=
    ⟨fun i k => (L i k).toReal, funext fun i => funext fun k => (EReal.coe_toReal (hL i k).1 (hL i k).2).symm⟩
  rw [entry_real, ← leftSum_coe, zero_add]
  rfl

end Cert.Equation

end
-- ==== Proof.Agreement.lean ====
/-
  The two results agree: under the precondition, the array the kernel ends with is the reference's result.
-/
module

public import proofs.«01_k».proof.Proof.ReferenceValue
public import proofs.«01_k».proof.Proof.ResultArray
public import proofs.«01_k».proof.Proof.Equation
public import proofs.«01_k».proof.Proof.Precondition

@[expose] public section

set_option maxRecDepth 16384

noncomputable section

namespace Cert.Agreement

open Cert.KernelIdeal Cert.KernelBlock Cert.ResultArray
open Idealize.ShloMosaic

/-- The kernel's result array is the reference's last sum, wherever every feature is 0 or 1 and the rows 0 and 1 of
    every table are finite. -/
theorem result_eq (x : IVec S100000x9 32) (x1 : FVec Ideal S119x128 .f32) (x2 : FVec Ideal S5x128 .f32) (x3 : FVec Ideal S12x128 .f32) (x4 : FVec Ideal S12x128 .f32) (x5 : FVec Ideal S10x128 .f32) (x6 : FVec Ideal S6x128 .f32) (x7 : FVec Ideal S6x128 .f32) (x8 : FVec Ideal S2x128 .f32) (x9 : FVec Ideal S2x128 .f32)
    (hx : ∀ (R : Fin 100000) (k : Fin 9), ∃ b : Fin 2, x (ix2 R k) = BitVec.ofNat 32 b.val)
    (hL : ∀ (i : Fin 2) (j : Fin 128) (k : Fin 9),
      lane i x1 x2 x3 x4 x5 x6 x7 x8 x9 j k ≠ ⊤ ∧ lane i x1 x2 x3 x4 x5 x6 x7 x8 x9 j k ≠ ⊥) :
    resultArray x x1 x2 x3 x4 x5 x6 x7 x8 x9 = Cert.ReferenceIdeal.Read.val_main_v36 (F := Ideal) x x1 x2 x3 x4 x5 x6 x7 x8 x9 := by
  funext i
  rw [eq_ix2 i]
  generalize (i 0 : Fin 100000) = R
  generalize (i 1 : Fin 128) = j
  choose b hb using hx R
  rw [Cert.ReferenceValue.sum_apply x x1 x2 x3 x4 x5 x6 x7 x8 x9 R j b hb]
  show entry (fun k => x (ix2 R k)) (lane 0 x1 x2 x3 x4 x5 x6 x7 x8 x9 j) (lane 1 x1 x2 x3 x4 x5 x6 x7 x8 x9 j) = _
  rw [show (fun k : Fin 9 => x (ix2 R k)) = fun k => BitVec.ofNat 32 (b k).val from funext hb,
    Cert.Equation.entry_eq (fun i => lane i x1 x2 x3 x4 x5 x6 x7 x8 x9 j) (fun i k => hL i j k) b]
  rfl

end Cert.Agreement

end
-- ==== Proof.lean ====
/-
  The certificate. It assembles the seven statements: the frames of the program as written, of its ideal reading and of
  the reference (each also under the precondition), the ideal reading's rewrites (there are none), and the equality of
  the kernel's result and the reference's over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_binary_features
public import proofs.«01_k».proof.Proof.KernelFrame
public import proofs.«01_k».proof.Proof.ResultArray
public import proofs.«01_k».proof.Proof.ReferenceRun
public import proofs.«01_k».proof.Proof.Precondition
public import proofs.«01_k».proof.Proof.Agreement

@[expose] public section

noncomputable section

namespace Cert.Proof

open Idealize.ShloMosaic Idealize.SL.Sem

/-- The kernel, as written, terminates with its arguments unchanged and its counters at zero. -/
theorem kernel_frame : Cert.quiescent_Kernel (hKernel := Cert.Kernel.Gen.facts) :=
  fun m g _ => Cert.KernelFrame.frame m g

/-- The kernel's ideal reading terminates with its arguments unchanged and its counters at zero. -/
theorem ideal_frame : Cert.quiescent_KernelIdeal (hKernelIdeal := Cert.KernelIdeal.Gen.facts) :=
  fun m g _ => (θ_run _ _ _).mono (fun _ h => ⟨fun c => (h.1 c).2, h.2⟩) (Cert.ResultArray.run_value m g)

/-- The same of the inputs the precondition admits. -/
theorem ideal_frame_pre : Cert.quiescent_KernelIdeal_pre_binary_features
    (hKernelIdeal := Cert.KernelIdeal.Gen.facts) (hPre_binary_features := Cert.Pre_binary_features.Gen.facts) :=
  fun m g _ => (θ_run _ _ _).mono (fun _ h => ⟨fun c => (h.1 c).2, h.2⟩) (Cert.ResultArray.run_value m g)

/-- The reference terminates with its arguments unchanged and its counters at zero. -/
theorem reference_frame : Cert.quiescent_ReferenceIdeal (hReferenceIdeal := Cert.ReferenceIdeal.Gen.facts) :=
  fun m g _ => Cert.ReferenceRun.frame m g

/-- The same of the inputs the precondition admits. -/
theorem reference_frame_pre : Cert.quiescent_ReferenceIdeal_pre_binary_features
    (hReferenceIdeal := Cert.ReferenceIdeal.Gen.facts) (hPre_binary_features := Cert.Pre_binary_features.Gen.facts) :=
  fun m g _ => Cert.ReferenceRun.frame m g

/-- From memories that agree on the arguments and meet the precondition, the kernel's ideal reading and the reference
    end with the same result array. -/
theorem results_agree : Cert.algebraic_KernelIdeal_ReferenceIdeal_pre_binary_features
    (hKernelIdeal := Cert.KernelIdeal.Gen.facts) (hReferenceIdeal := Cert.ReferenceIdeal.Gen.facts)
    (hPre_binary_features := Cert.Pre_binary_features.Gen.facts) := by
  intro m g m' g' hpre heq
  refine ⟨_, (θ_run _ _ _).mono (fun _ h => h.1) (Cert.ResultArray.run_value m g),
    (θ_run _ _ _).mono (fun _ h c => ⟨(h c).1.trans ?_, (h c).2⟩) (Cert.ReferenceRun.run_value m' g')⟩
  obtain ⟨e0, e1, e2, e3, e4, e5, e6, e7, e8, e9⟩ := heq c
  obtain ⟨p, p0, p1, p2, p3, p4, p5, p6, p7, p8⟩ := hpre c
  rw [e0, e1, e2, e3, e4, e5, e6, e7, e8, e9]
  exact (Cert.Agreement.result_eq _ _ _ _ _ _ _ _ _ _
    (Cert.Precondition.feature_bit _ _ _ _ _ _ _ _ _ _ p)
    (Cert.Precondition.lane_finite _ _ _ _ _ _ _ _ _ _ p0 p1 p2 p3 p4 p5 p6 p7 p8)).symm

/-- All the claims, together. -/
theorem claim : Cert.Claim :=
  ⟨Cert.Kernel.Gen.facts, Cert.KernelIdeal.Gen.facts, Cert.ReferenceIdeal.Gen.facts, Cert.Pre_binary_features.Gen.facts,
    kernel_frame, ideal_frame, ideal_frame_pre, reference_frame, reference_frame_pre, trivial, results_agree⟩

end Cert.Proof

end
